-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_pre [hPre_pre : Cert.Pre_pre.Facts] (m : (ℓ : Loc Cert.KernelIdeal.nD Cert.KernelIdeal.τ Cert.KernelIdeal.sig) → Buf (Elt Ideal) ℓ) : Prop :=
  ∀ c : Dev Cert.KernelIdeal.nD,
    (Cert.Pre_pre.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_pre [hPre_pre : Cert.Pre_pre.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pre.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pre [hKernelIdeal : Cert.KernelIdeal.Facts] [hPre_pre : Cert.Pre_pre.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pre m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pre [hReferenceIdeal : Cert.ReferenceIdeal.Facts] [hPre_pre : Cert.Pre_pre.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pre m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.named_const.Statement Cert.KernelIdeal.κ "crow" .f32 0xBFAE63F8#32 ((Real.log (Real.sqrt ((7549747 / 8388608) * (Real.sqrt ((7549747 / 8388608) * (Real.sqrt ((7549747 / 8388608) * (Real.sqrt ((6872377 / 2199023255552) * (Real.sqrt ((6872377 / 2199023255552) * (Real.sqrt ((7549747 / 8388608) * (Real.sqrt ((7549747 / 8388608) * (Real.sqrt ((6872377 / 2199023255552) * (Real.sqrt ((6872377 / 2199023255552) * (Real.sqrt ((7549747 / 8388608) * (Real.sqrt ((7549747 / 8388608) * (Real.sqrt ((6872377 / 2199023255552) * (Real.sqrt ((6872377 / 2199023255552) * (Real.sqrt ((7549747 / 8388608) * (Real.sqrt ((7549747 / 8388608) * (Real.sqrt ((6872377 / 2199023255552) * (Real.sqrt ((6872377 / 2199023255552) * (Real.sqrt ((7549747 / 8388608) * (Real.sqrt ((7549747 / 8388608) * (Real.sqrt ((6872377 / 2199023255552) * (Real.sqrt ((6872377 / 2199023255552) * (Real.sqrt ((7549747 / 8388608) * (Real.sqrt ((7549747 / 8388608) * (Real.sqrt ((6872377 / 2199023255552) * (Real.sqrt ((6872377 / 2199023255552) * (Real.sqrt (Real.sqrt (Real.sqrt (Real.sqrt ((6872377 / 2199023255552) * (Real.sqrt ((6872377 / 2199023255552) * (Real.sqrt (Real.sqrt ((6872377 / 2199023255552) * (Real.sqrt (Real.sqrt ((6872377 / 2199023255552) * (Real.sqrt (Real.sqrt (Real.sqrt (Real.sqrt ((6872377 / 2199023255552) * (Real.sqrt ((6872377 / 2199023255552) * (Real.sqrt ((6872377 / 2199023255552) * 1)))))))))))))))))))))))))))))))))))))))))))))))))))))))))))))))))))))))) : ℝ) : EReal)
  ∧ IdealRules.named_const.Statement Cert.KernelIdeal.κ "gap" .f32 0x3F666632#32 ((1979114005191 / 2199023255552 : ℝ) : EReal)

def algebraic_KernelIdeal_ReferenceIdeal_pre_pre [hKernelIdeal : Cert.KernelIdeal.Facts] [hReferenceIdeal : Cert.ReferenceIdeal.Facts] [hPre_pre : Cert.Pre_pre.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pre m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_pre : Cert.Pre_pre.Facts),
    quiescent_Kernel (hKernel := hKernel)
    ∧ quiescent_KernelIdeal (hKernelIdeal := hKernelIdeal)
    ∧ quiescent_KernelIdeal_pre_pre (hKernelIdeal := hKernelIdeal) (hPre_pre := hPre_pre)
    ∧ quiescent_ReferenceIdeal (hReferenceIdeal := hReferenceIdeal)
    ∧ quiescent_ReferenceIdeal_pre_pre (hReferenceIdeal := hReferenceIdeal) (hPre_pre := hPre_pre)
    ∧ preserves_Kernel_KernelIdeal
    ∧ algebraic_KernelIdeal_ReferenceIdeal_pre_pre (hKernelIdeal := hKernelIdeal) (hReferenceIdeal := hReferenceIdeal) (hPre_pre := hPre_pre)
-- ==== Pre_pre.lean ====
abbrev S4096x32000 : Shape := ⟨2, ![4096, 32000]⟩
abbrev S4096 : Shape := ⟨1, ![4096]⟩
abbrev S_ : Shape := ⟨0, ![]⟩

class Facts : Prop where
  bcast_S_S4096 : S_.BroadcastsInDim S4096 (![] : Fin 0 → Fin S4096.rank)
  reducesTo_S4096_S_d0 : S4096.ReducesTo [0] S_
  h_S_ : 0 < S_.numel
  bcast_S_S4096x32000 : S_.BroadcastsInDim S4096x32000 (![] : Fin 0 → Fin S4096x32000.rank)
  reducesTo_S4096x32000_S_d0_1 : S4096x32000.ReducesTo [0, 1] S_

variable [Facts]

def fn {F : FTy → Type} [FloatOps F] (main_arg0 : FVec F S4096x32000 .f32) (main_arg1 : IVec S4096 32) : IVec S_ 1 :=
  let main_c : IVec S_ 32 := constantI S_ 32 0#32
  let main_v0 : IVec S4096 32 := broadcastInDim S4096 ![] bcast_S_S4096 main_c
  let main_v1 : IVec S4096 1 := cmpi .sge main_arg1 main_v0
  let main_c_0 : IVec S_ 1 := constantI S_ 1 1#1
  let main_v2 : IVec S_ 1 := (fun x v => Host.reduce IntOp.andi x v reducesTo_S4096_S_d0 h_S_) main_v1 main_c_0
  let main_c_1 : IVec S_ 32 := constantI S_ 32 32000#32
  let main_v3 : IVec S4096 32 := broadcastInDim S4096 ![] bcast_S_S4096 main_c_1
  let main_v4 : IVec S4096 1 := cmpi .slt main_arg1 main_v3
  let main_c_2 : IVec S_ 1 := constantI S_ 1 1#1
  let main_v5 : IVec S_ 1 := (fun x v => Host.reduce IntOp.andi x v reducesTo_S4096_S_d0 h_S_) main_v4 main_c_2
  let main_v6 : IVec S_ 1 := andi main_v2 main_v5
  let main_v7 : FVec F S4096x32000 .f32 := Host.absf main_arg0
  let main_cst : FVec F S_ .f32 := constant S_ .f32 0x7F800000#32
  let main_v8 : FVec F S4096x32000 .f32 := broadcastInDim S4096x32000 ![] bcast_S_S4096x32000 main_cst
  let main_v9 : IVec S4096x32000 1 := cmpf .olt main_v7 main_v8
  let main_c_3 : IVec S_ 1 := constantI S_ 1 1#1
  let main_v10 : IVec S_ 1 := (fun x v => Host.reduce IntOp.andi x v reducesTo_S4096x32000_S_d0_1 h_S_) main_v9 main_c_3
  let main_v11 : IVec S_ 1 := andi main_v6 main_v10
  main_v11
-- ==== Kernel.lean ====
abbrev S4096x32000 : Shape := ⟨2, ![4096, 32000]⟩
abbrev S4096 : Shape := ⟨1, ![4096]⟩
abbrev S4096x1 : Shape := ⟨2, ![4096, 1]⟩
abbrev S4096x128 : Shape := ⟨2, ![4096, 128]⟩
abbrev S1024x6400 : Shape := ⟨2, ![1024, 6400]⟩
abbrev S1024x1 : Shape := ⟨2, ![1024, 1]⟩
abbrev S1024x128 : Shape := ⟨2, ![1024, 128]⟩
abbrev S524288 : Shape := ⟨1, ![524288]⟩
abbrev S128 : Shape := ⟨1, ![128]⟩
abbrev S_ : Shape := ⟨0, ![]⟩
abbrev S16 : Shape := ⟨1, ![16]⟩
abbrev S32x128 : Shape := ⟨2, ![32, 128]⟩
abbrev S1x1 : Shape := ⟨2, ![1, 1]⟩
abbrev S1x32x128 : Shape := ⟨3, ![1, 32, 128]⟩
abbrev S1 : Shape := ⟨1, ![1]⟩
abbrev S1x1x1 : Shape := ⟨3, ![1, 1, 1]⟩
abbrev S1x4096x128 : Shape := ⟨3, ![1, 4096, 128]⟩

abbrev nBuf : Table → Nat
  | .hbm => 12
  | .local .tc .vmem => 12
  | .local .tc .smem => 1
  | .local .scVector .vmem => 3
  | _ => 0

abbrev bufTy : (tb : Table) → Fin (nBuf tb) → BufTy
  | .hbm, ⟨0, _⟩ => ⟨S4096x32000, .f32⟩
  | .hbm, ⟨1, _⟩ => ⟨S4096, .i32⟩
  | .hbm, ⟨2, _⟩ => ⟨S4096x1, .i32⟩
  | .hbm, ⟨3, _⟩ => ⟨S4096x128, .f32⟩
  | .hbm, ⟨4, _⟩ => ⟨S4096x128, .f32⟩
  | .hbm, ⟨5, _⟩ => ⟨S524288, .f32⟩
  | .hbm, ⟨6, _⟩ => ⟨S4096, .f32⟩
  | .hbm, ⟨7, _⟩ => ⟨S4096x1, .i32⟩
  | .hbm, ⟨8, _⟩ => ⟨S32x128, .i32⟩
  | .hbm, ⟨9, _⟩ => ⟨S32x128, .f32⟩
  | .hbm, ⟨10, _⟩ => ⟨S1x1, .f32⟩
  | .hbm, ⟨11, _⟩ => ⟨S_, .f32⟩
  | .local .tc .vmem, ⟨0, _⟩ => ⟨S1024x6400, .f32⟩
  | .local .tc .vmem, ⟨1, _⟩ => ⟨S1024x6400, .f32⟩
  | .local .tc .vmem, ⟨2, _⟩ => ⟨S1024x1, .i32⟩
  | .local .tc .vmem, ⟨3, _⟩ => ⟨S1024x1, .i32⟩
  | .local .tc .vmem, ⟨4, _⟩ => ⟨S1024x128, .f32⟩
  | .local .tc .vmem, ⟨5, _⟩ => ⟨S1024x128, .f32⟩
  | .local .tc .vmem, ⟨6, _⟩ => ⟨S1024x128, .f32⟩
  | .local .tc .vmem, ⟨7, _⟩ => ⟨S1024x128, .f32⟩
  | .local .tc .vmem, ⟨8, _⟩ => ⟨S4096x128, .f32⟩
  | .local .tc .vmem, ⟨9, _⟩ => ⟨S4096x1, .i32⟩
  | .local .tc .vmem, ⟨10, _⟩ => ⟨S32x128, .i32⟩
  | .local .tc .vmem, ⟨11, _⟩ => ⟨S32x128, .f32⟩
  | .local .tc .smem, ⟨0, _⟩ => ⟨S1x1, .f32⟩
  | .local .scVector .vmem, ⟨0, _⟩ => ⟨S128, .i32⟩
  | .local .scVector .vmem, ⟨1, _⟩ => ⟨S128, .i32⟩
  | .local .scVector .vmem, ⟨2, _⟩ => ⟨S128, .f32⟩
  | _, _ => ⟨S4096x32000, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => false
  | ⟨9, _⟩ => false
  | ⟨10, _⟩ => false
  | ⟨11, _⟩ => true
  | ⟨12, _⟩ => true
  | ⟨13, _⟩ => true
  | ⟨14, _⟩ => true
  | ⟨15, _⟩ => true
  | _ => false

abbrev sig : RefSig :=
  ofTables nBuf rfl bufTy 4 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v2_scv : Ref sig .scVector := ⟨.hbm, 5, rfl⟩
abbrev main_arg1_scv : Ref sig .scVector := ⟨.hbm, 1, rfl⟩
abbrev main_v3_scv : Ref sig .scVector := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc2_stg0_0 : Ref sig .tc := ⟨.vmem, 8, rfl⟩
abbrev cc2_stg1_0 : Ref sig .tc := ⟨.vmem, 9, rfl⟩
abbrev cc2_stg2_0 : Ref sig .tc := ⟨.vmem, 10, rfl⟩
abbrev cc2_stg3_0 : Ref sig .tc := ⟨.vmem, 11, rfl⟩
abbrev cc2_stg4_0 : Ref sig .tc := ⟨.smem, 0, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc2_sem0_0 : DmaSem sig := 11
abbrev cc2_sem1_0 : DmaSem sig := 12
abbrev cc2_sem2_0 : DmaSem sig := 13
abbrev cc2_sem3_0 : DmaSem sig := 14
abbrev cc2_sem4_0 : DmaSem sig := 15
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![4, 5], ![false, false]⟩

def k0_cond1 (i : grid0.Coords) : BitVec 1 :=
  let arg1 : BitVec 32 := BitVec.ofNat 32 (i 1).val
  let c0_i32_57 : BitVec 32 := 0#32
  let v569 : BitVec 1 := Scalar.cmpi .eq arg1 c0_i32_57
  let v570 : BitVec 32 := Scalar.extui v569
  let c0_i32_58 : BitVec 32 := 0#32
  let v571 : BitVec 1 := Scalar.cmpi .ne v570 c0_i32_58
  v571

def k0_cond2 (i : grid0.Coords) : BitVec 1 :=
  let arg1 : BitVec 32 := BitVec.ofNat 32 (i 1).val
  let c0_i32_59 : BitVec 32 := 0#32
  let v572 : BitVec 1 := Scalar.cmpi .sgt arg1 c0_i32_59
  let v573 : BitVec 32 := Scalar.extui v572
  let c0_i32_60 : BitVec 32 := 0#32
  let v574 : BitVec 1 := Scalar.cmpi .ne v573 c0_i32_60
  v574

def k0_cond3 (i : grid0.Coords) : BitVec 1 :=
  let arg1 : BitVec 32 := BitVec.ofNat 32 (i 1).val
  let c0_i32_61 : BitVec 32 := 0#32
  let v575 : BitVec 1 := Scalar.cmpi .eq arg1 c0_i32_61
  let v576 : BitVec 32 := Scalar.extui v575
  let c0_i32_62 : BitVec 32 := 0#32
  let v577 : BitVec 1 := Scalar.cmpi .ne v576 c0_i32_62
  v577

def k0_cond4 (i : grid0.Coords) : BitVec 1 :=
  let arg1 : BitVec 32 := BitVec.ofNat 32 (i 1).val
  let c0_i32_63 : BitVec 32 := 0#32
  let v578 : BitVec 1 := Scalar.cmpi .sgt arg1 c0_i32_63
  let v579 : BitVec 32 := Scalar.extui v578
  let c0_i32_64 : BitVec 32 := 0#32
  let v580 : BitVec 1 := Scalar.cmpi .ne v579 c0_i32_64
  v580

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x6400 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨2, ![2, 16], ![false, false]⟩

def k1_off1 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  ![v2.toNat]
abbrev grid2 : Pipeline.Grid := .none

abbrev stage2_0 : Fin 1 → Memref sig .tc .vmem S4096x128 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S4096x1 .i32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev stage2_2 : Fin 1 → Memref sig .tc .vmem S32x128 .i32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))

abbrev stage2_3 : Fin 1 → Memref sig .tc .vmem S32x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))

abbrev stage2_4 : Fin 1 → Memref sig .tc .smem S1x1 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== KernelIdeal.lean ====
variable {F : FTy → Type} [FloatOps F] [Named F]
def κ : String → Option EReal := fun
  | "crow" => some ((Real.log (Real.sqrt ((7549747 / 8388608) * (Real.sqrt ((7549747 / 8388608) * (Real.sqrt ((7549747 / 8388608) * (Real.sqrt ((6872377 / 2199023255552) * (Real.sqrt ((6872377 / 2199023255552) * (Real.sqrt ((7549747 / 8388608) * (Real.sqrt ((7549747 / 8388608) * (Real.sqrt ((6872377 / 2199023255552) * (Real.sqrt ((6872377 / 2199023255552) * (Real.sqrt ((7549747 / 8388608) * (Real.sqrt ((7549747 / 8388608) * (Real.sqrt ((6872377 / 2199023255552) * (Real.sqrt ((6872377 / 2199023255552) * (Real.sqrt ((7549747 / 8388608) * (Real.sqrt ((7549747 / 8388608) * (Real.sqrt ((6872377 / 2199023255552) * (Real.sqrt ((6872377 / 2199023255552) * (Real.sqrt ((7549747 / 8388608) * (Real.sqrt ((7549747 / 8388608) * (Real.sqrt ((6872377 / 2199023255552) * (Real.sqrt ((6872377 / 2199023255552) * (Real.sqrt ((7549747 / 8388608) * (Real.sqrt ((7549747 / 8388608) * (Real.sqrt ((6872377 / 2199023255552) * (Real.sqrt ((6872377 / 2199023255552) * (Real.sqrt (Real.sqrt (Real.sqrt (Real.sqrt ((6872377 / 2199023255552) * (Real.sqrt ((6872377 / 2199023255552) * (Real.sqrt (Real.sqrt ((6872377 / 2199023255552) * (Real.sqrt (Real.sqrt ((6872377 / 2199023255552) * (Real.sqrt (Real.sqrt (Real.sqrt (Real.sqrt ((6872377 / 2199023255552) * (Real.sqrt ((6872377 / 2199023255552) * (Real.sqrt ((6872377 / 2199023255552) * 1)))))))))))))))))))))))))))))))))))))))))))))))))))))))))))))))))))))))) : ℝ) : EReal)
  | "gap" => some ((1979114005191 / 2199023255552 : ℝ) : EReal)
  | _ => none
-- ==== ReferenceIdeal.lean ====
abbrev S4096x32000 : Shape := ⟨2, ![4096, 32000]⟩
abbrev S4096 : Shape := ⟨1, ![4096]⟩
abbrev S_ : Shape := ⟨0, ![]⟩
abbrev S4096x1 : Shape := ⟨2, ![4096, 1]⟩
abbrev S4096x2 : Shape := ⟨2, ![4096, 2]⟩
abbrev S1 : Shape := ⟨1, ![1]⟩

abbrev nBuf : Space → Nat
  | .hbm => 55
  | .vmem => 0
  | .smem => 0
  | _ => 0

abbrev bufTy : (tb : Table) → Fin (tcTables nBuf tb) → BufTy
  | .hbm, ⟨0, _⟩ => ⟨S4096x32000, .f32⟩
  | .hbm, ⟨1, _⟩ => ⟨S4096, .i32⟩
  | .hbm, ⟨2, _⟩ => ⟨S_, .f32⟩
  | .hbm, ⟨3, _⟩ => ⟨S4096x32000, .f32⟩
  | .hbm, ⟨4, _⟩ => ⟨S4096, .i32⟩
  | .hbm, ⟨5, _⟩ => ⟨S_, .i32⟩
  | .hbm, ⟨6, _⟩ => ⟨S4096, .i32⟩
  | .hbm, ⟨7, _⟩ => ⟨S4096, .i1⟩
  | .hbm, ⟨8, _⟩ => ⟨S_, .i32⟩
  | .hbm, ⟨9, _⟩ => ⟨S4096, .i32⟩
  | .hbm, ⟨10, _⟩ => ⟨S4096, .i32⟩
  | .hbm, ⟨11, _⟩ => ⟨S4096, .i32⟩
  | .hbm, ⟨12, _⟩ => ⟨S_, .i32⟩
  | .hbm, ⟨13, _⟩ => ⟨S4096, .i32⟩
  | .hbm, ⟨14, _⟩ => ⟨S4096, .i1⟩
  | .hbm, ⟨15, _⟩ => ⟨S_, .i32⟩
  | .hbm, ⟨16, _⟩ => ⟨S4096, .i32⟩
  | .hbm, ⟨17, _⟩ => ⟨S4096, .i32⟩
  | .hbm, ⟨18, _⟩ => ⟨S4096, .i32⟩
  | .hbm, ⟨19, _⟩ => ⟨S4096x1, .i32⟩
  | .hbm, ⟨20, _⟩ => ⟨S4096x1, .i32⟩
  | .hbm, ⟨21, _⟩ => ⟨S4096x2, .i32⟩
  | .hbm, ⟨22, _⟩ => ⟨S_, .f32⟩
  | .hbm, ⟨23, _⟩ => ⟨S4096, .f32⟩
  | .hbm, ⟨24, _⟩ => ⟨S4096x32000, .f32⟩
  | .hbm, ⟨25, _⟩ => ⟨S_, .i32⟩
  | .hbm, ⟨26, _⟩ => ⟨S1, .i32⟩
  | .hbm, ⟨27, _⟩ => ⟨S_, .f32⟩
  | .hbm, ⟨28, _⟩ => ⟨S4096, .f32⟩
  | .hbm, ⟨29, _⟩ => ⟨S4096x32000, .f32⟩
  | .hbm, ⟨30, _⟩ => ⟨S_, .i32⟩
  | .hbm, ⟨31, _⟩ => ⟨S4096, .i32⟩
  | .hbm, ⟨32, _⟩ => ⟨S4096, .i1⟩
  | .hbm, ⟨33, _⟩ => ⟨S4096x1, .i1⟩
  | .hbm, ⟨34, _⟩ => ⟨S_, .f32⟩
  | .hbm, ⟨35, _⟩ => ⟨S_, .f32⟩
  | .hbm, ⟨36, _⟩ => ⟨S4096x32000, .i1⟩
  | .hbm, ⟨37, _⟩ => ⟨S4096x32000, .f32⟩
  | .hbm, ⟨38, _⟩ => ⟨S4096x32000, .f32⟩
  | .hbm, ⟨39, _⟩ => ⟨S_, .f32⟩
  | .hbm, ⟨40, _⟩ => ⟨S4096x32000, .f32⟩
  | .hbm, ⟨41, _⟩ => ⟨S4096x32000, .i1⟩
  | .hbm, ⟨42, _⟩ => ⟨S4096x32000, .i1⟩
  | .hbm, ⟨43, _⟩ => ⟨S4096x32000, .i1⟩
  | .hbm, ⟨44, _⟩ => ⟨S4096x32000, .f32⟩
  | .hbm, ⟨45, _⟩ => ⟨S4096x32000, .f32⟩
  | .hbm, ⟨46, _⟩ => ⟨S_, .f32⟩
  | .hbm, ⟨47, _⟩ => ⟨S4096x32000, .f32⟩
  | .hbm, ⟨48, _⟩ => ⟨S4096x32000, .f32⟩
  | .hbm, ⟨49, _⟩ => ⟨S4096x32000, .f32⟩
  | .hbm, ⟨50, _⟩ => ⟨S4096x32000, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | _, _ => ⟨S4096x32000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_c_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c_1 : Ref sig .tc := ⟨.hbm, 12, rfl⟩
abbrev main_v7 : Ref sig .tc := ⟨.hbm, 13, rfl⟩
abbrev main_v8 : Ref sig .tc := ⟨.hbm, 14, rfl⟩
abbrev main_c_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_3 : Ref sig .tc := ⟨.hbm, 22, rfl⟩
abbrev main_v15 : Ref sig .tc := ⟨.hbm, 23, rfl⟩
abbrev main_v16 : Ref sig .tc := ⟨.hbm, 24, rfl⟩
abbrev main_c_4 : Ref sig .tc := ⟨.hbm, 25, rfl⟩
abbrev main_v17 : Ref sig .tc := ⟨.hbm, 26, rfl⟩
abbrev main_cst_5 : Ref sig .tc := ⟨.hbm, 27, rfl⟩
abbrev main_v18 : Ref sig .tc := ⟨.hbm, 28, rfl⟩
abbrev main_v19 : Ref sig .tc := ⟨.hbm, 29, rfl⟩
abbrev main_c_6 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_7 : Ref sig .tc := ⟨.hbm, 34, rfl⟩
abbrev main_call0_v0 : Ref sig .tc := ⟨.hbm, 35, rfl⟩
abbrev main_call0_v1 : Ref sig .tc := ⟨.hbm, 36, rfl⟩
abbrev main_call0_v2 : Ref sig .tc := ⟨.hbm, 37, rfl⟩
abbrev main_v23 : Ref sig .tc := ⟨.hbm, 38, rfl⟩
abbrev main_cst_8 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_9 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_10 : Ref sig .tc := ⟨.hbm, 51, rfl⟩
abbrev main_v34 : Ref sig .tc := ⟨.hbm, 52, rfl⟩
abbrev main_cst_11 : Ref sig .tc := ⟨.hbm, 53, rfl⟩
abbrev main_v35 : Ref sig .tc := ⟨.hbm, 54, rfl⟩

abbrev nD : Nat := 1
abbrev τ : Topo := Topo.v7x

variable {F : FTy → Type} [FloatOps F]
-- ==== Proof.Setup.lean ====
/- The label-smoothing loss kernel's launch as the SparseCore launch theorem sees it: the resource algebra, the
   buffers, what the one SparseCore call's handshakes carry. The gathered values stand in what comes back. -/
module

public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.Proof.Smooth

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program's layers -/

/-- The labels of the TensorCore layer: the kernels' bodies and the two pipelines. -/
abbrev ΛP : Labels := Pipeline.Sig Λ₀ (Fin 2) fun p => (pcfgs (F := F) p).Adm
/-- The SparseCore configuration: one call. -/
abbrev K : SparseCore.Cfg τ sig (ΛP (F := F)) 1 := sc (F := F)
/-- The TensorCore layer's bodies. -/
abbrev D [FloatOps F] [Named F] : Defs nD τ sig (Elt F) (ΛP (F := F)) := Pipeline.defs pcfgs defs₀
/-- The kernels' bodies have no recursion to bound, -/
abbrev 𝒱₀ : Variants := Variants.none
/-- nor have the layers above them. -/
abbrev 𝒱 : Variants := 𝒱₀.lift
/-- The one bound. -/
abbrev v₀ : 𝒱.V := Sum.inl none

/-- The launch semaphores are distinct and lie outside every kernel's scope; no SparseCore owns a task-shared buffer. -/
theorem scFacts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

/-- The handshakes' rounds, -/
abbrev UH : Type := URounds (GSem nD τ sig) ℕ
/-- the pipelines' rounds, -/
abbrev UP : Type := URounds (GSem nD τ sig) Unit
/-- and both beside the transfers' counters. -/
abbrev UU : Type := UH × (UP × Counters)

local notation "𝕄" => MT nD τ sig (HIx 1) (Elt F) ℕ UU ℕ

/-- Where the handshakes' rounds live, -/
abbrev EH : Emb UH (MT nD τ sig (HIx 1) (Elt F) ℕ UU ℕ) := embL
/-- and where the pipelines' do. -/
def EP : Emb UP (MT nD τ sig (HIx 1) (Elt F) ℕ UU ℕ) := (Emb.inl : Emb UP (UP × Counters)).trans embR

instance EP_landsIn : (EP : Emb UP 𝕄).LandsIn (upEmb : UEmb _ 𝕄) := by unfold EP embR; infer_instance

/-! ## The buffers of the SparseCore call -/

variable (m : (ℓ : Loc nD τ sig) → Buf (Elt F) ℓ)

/-- The targets, the flat table of chunks, the gathered elements: as locations of device `d`. -/
abbrev tLoc (d : Dev nD) : Loc nD τ sig := (SparseCore.T d).loc main_arg1
abbrev cLoc (d : Dev nD) : Loc nD τ sig := (SparseCore.T d).loc main_v2
abbrev oLoc (d : Dev nD) : Loc nD τ sig := (SparseCore.T d).loc main_v3

local notation "tV" => (Memref.whole Cert.KernelIdeal.main_arg1_scv : Memref Cert.KernelIdeal.sig Kind.scVector Space.hbm Cert.KernelIdeal.S4096 EltTy.i32)
local notation "oV" => (Memref.whole Cert.KernelIdeal.main_v3_scv : Memref Cert.KernelIdeal.sig Kind.scVector Space.hbm Cert.KernelIdeal.S4096 EltTy.f32)

/-- The rows split evenly into 32 blocks. -/
theorem div32 : 32 ∣ S4096.size 0 := ⟨128, rfl⟩
/-- Block `b` of the 32 blocks of 128 elements. -/
abbrev blk (b : Fin 32) : Rect S4096 := Rect.part (s := S4096) (a₀ := 0) div32 b
/-- Its elements among the targets, -/
abbrev tSet (b : Fin 32) : Finset S4096.Idx := ((tV).view.slice (blk b)).set
/-- and among the gathered ones. -/
abbrev oSet (b : Fin 32) : Finset S4096.Idx := ((oV).view.slice (blk b)).set
/-- The block of tile `i` of SparseCore `c`. -/
abbrev tileBlk (c : Fin 2) (i : Fin 16) : Fin 32 := ⟨i.val * 2 + c.val, by omega⟩

/-- The word the tiles compute for element `j`: where row `j`'s chunk has the target's lane. -/
abbrev flatWord (t : S4096.Idx → BitVec 32) (j : S4096.Idx) : ℕ := (j 0).val * 128 + (t j &&& 127#32).toNat

/-- The low seven bits of a word name one of 128 lanes, -/
theorem lane_lt (w : BitVec 32) : (w &&& 127#32).toNat < 128 := by
  rw [BitVec.toNat_and]; exact lt_of_le_of_lt Nat.and_le_right (by decide)

/-- so the place a tile computes lies in the table. -/
theorem flatWord_lt (t : S4096.Idx → BitVec 32) (j : S4096.Idx) : flatWord t j < 524288 := by
  have h := lane_lt (t j); have h' : (j 0).val < 4096 := (j 0).isLt
  unfold flatWord; omega

/-- Position `n` of the flat table. -/
def flatAt (n : ℕ) (h : n < 524288) : S524288.Idx := fun a => match a with | ⟨0, _⟩ => ⟨n, h⟩

/-- What the gather leaves: element `j` is the flat table at `j`'s word. -/
def gathered (t : S4096.Idx → BitVec 32) (tab : S524288.Idx → Elt F .f32) : S4096.Idx → Elt F .f32 :=
  fun j => tab (flatAt (flatWord t j) (flatWord_lt t j))

/-! ## Shares of the table: one share halved down to the tiles -/

/-- Half of a number below `2 ^ (n + 1)` is below `2 ^ n`; -/
theorem half_lt {n i : ℕ} (h : i < 2 ^ (n + 1)) : i / 2 < 2 ^ n := by
  have e : 2 ^ (n + 1) = 2 * 2 ^ n := pow_succ' 2 n
  omega
/-- twice a number below `2 ^ n`, and a bit, is below `2 ^ (n + 1)`. -/
theorem twice_lt {n i b : ℕ} (h : i < 2 ^ n) (hb : b < 2) : 2 * i + b < 2 ^ (n + 1) := by
  have e : 2 ^ (n + 1) = 2 * 2 ^ n := pow_succ' 2 n
  omega

/-- Leaf `i` of the `n`-fold halving of share `q`, the low bit of `i` choosing the half. -/
def leaf (n : ℕ) : PosShare TreeShare → Fin (2 ^ n) → PosShare TreeShare :=
  Nat.rec (motive := fun n => PosShare TreeShare → Fin (2 ^ n) → PosShare TreeShare) (fun q _ => q)
    (fun _ ih q i => ih (if i.val % 2 = 0 then q.left else q.right) ⟨i.val / 2, half_lt i.isLt⟩) n

/-- A number below `2 ^ (n + 1)` is a low bit and the rest. -/
def bitEquiv (n : ℕ) : Fin (2 ^ n) ⊕ Fin (2 ^ n) ≃ Fin (2 ^ (n + 1)) where
  toFun x := match x with
    | .inl i => ⟨2 * i.val + 0, twice_lt i.isLt (by decide)⟩
    | .inr i => ⟨2 * i.val + 1, twice_lt i.isLt (by decide)⟩
  invFun i := if i.val % 2 = 0 then .inl ⟨i.val / 2, half_lt i.isLt⟩
    else .inr ⟨i.val / 2, half_lt i.isLt⟩
  left_inv x := by
    rcases x with i | i
    · simp
    · have h1 : (2 * i.val + 1) % 2 = 1 := by omega
      have h2 : (2 * i.val + 1) / 2 = i.val := by omega
      simp [h1, h2]
  right_inv i := by
    by_cases h : i.val % 2 = 0
    · simp only [h, if_true]; apply Fin.ext; simp; omega
    · simp only [h, if_false]; apply Fin.ext; simp; omega

/-- One halving. -/
theorem leaf_succ (n : ℕ) (q : PosShare TreeShare) (i : Fin (2 ^ (n + 1))) :
    leaf (n + 1) q i = leaf n (if i.val % 2 = 0 then q.left else q.right) ⟨i.val / 2, half_lt i.isLt⟩ := rfl

/-- The even leaves are the left half's, -/
theorem leaf_even (n : ℕ) (q : PosShare TreeShare) (i : Fin (2 ^ n)) : leaf (n + 1) q (bitEquiv n (.inl i)) = leaf n q.left i := by
  have h : (bitEquiv n (.inl i)).val = 2 * i.val := rfl
  rw [leaf_succ, if_pos (by omega)]
  exact congrArg (leaf n q.left) (Fin.ext (by show (bitEquiv n (.inl i)).val / 2 = i.val; omega))
/-- the odd ones the right half's. -/
theorem leaf_odd (n : ℕ) (q : PosShare TreeShare) (i : Fin (2 ^ n)) : leaf (n + 1) q (bitEquiv n (.inr i)) = leaf n q.right i := by
  have h : (bitEquiv n (.inr i)).val = 2 * i.val + 1 := rfl
  rw [leaf_succ, if_neg (by omega)]
  exact congrArg (leaf n q.right) (Fin.ext (by show (bitEquiv n (.inr i)).val / 2 = i.val; omega))

/-- Elements held at a share are held at its leaves at once. -/
theorem pts_leaves {ℓ : Loc nD τ sig} (I : Finset (Idx ℓ)) (f : Buf (Elt F) ℓ) (n : ℕ) :
    ∀ q : PosShare TreeShare, (ℓ ↦[I]{q} f : sProp 𝕄) = bigSep Finset.univ fun i : Fin (2 ^ n) => ℓ ↦[I]{leaf n q i} f := by
  induction n with
  | zero =>
    intro q
    have : Subsingleton (Fin (2 ^ 0)) := inferInstanceAs (Subsingleton (Fin 1))
    rw [bigSep_univ_of_subsingleton (⟨0, Nat.one_pos⟩ : Fin (2 ^ 0)) (Φ := fun i : Fin (2 ^ 0) => (ℓ ↦[I]{leaf 0 q i} f : sProp 𝕄))]
    rfl
  | succ n ih =>
    intro q
    have hs := pointsTo_share (ℓ := ℓ) (I := I) (f := f) (Ix := HIx 1) (Name := ℕ) (U := UU) (Lvl := ℕ) (PosShare.mem_left_op_right q)
    rw [BI.Entails.antisymm hs.1 hs.2, ih q.left, ih q.right,
      bigSep_univ_equiv (bitEquiv n) (fun i : Fin (2 ^ (n + 1)) => (ℓ ↦[I]{leaf (n + 1) q i} f : sProp 𝕄)), bigSep_univ_sum]
    exact congrArg₂ BI.sep (bigSep_congr fun i _ => by rw [leaf_even]) (bigSep_congr fun i _ => by rw [leaf_odd])

/-- The share of the table block `b`'s tile reads. -/
abbrev shareOf (b : Fin 32) : PosShare TreeShare := leaf 5 fullShare b

/-! ## What the handshakes carry -/

variable (tab : (d : Dev nD) → Buf (Elt F) (cLoc d))

/-- What tile work on block `b` starts from: the block's targets, a share of the table, the block of the result; -/
abbrev blkIn (d : Dev nD) (b : Fin 32) : sProp 𝕄 :=
  iprop((tLoc d ↦[tSet b]{fullShare} m (tLoc d)) ∗ (cLoc d ↦{shareOf b} tab d) ∗ (oLoc d ↦[oSet b]{fullShare} m (oLoc d)))
/-- and ends with: the same, the result's block gathered. -/
abbrev blkOut (d : Dev nD) (b : Fin 32) : sProp 𝕄 :=
  iprop((tLoc d ↦[tSet b]{fullShare} m (tLoc d)) ∗ (cLoc d ↦{shareOf b} tab d) ∗ (oLoc d ↦[oSet b]{fullShare} gathered (m (tLoc d)) (tab d)))

/-- The gather runs on two SparseCores -/
theorem nCore_zero : (K (F := F)).nCore 0 = 2 := rfl
/-- and on sixteen subcores of each. -/
theorem nSub_zero : (K (F := F)).nSub 0 = 16 := rfl
/-- The block of a tile as the configuration counts its cores and tiles. -/
abbrev cfgBlk (c : Fin ((K (F := F)).nCore 0)) (i : Fin ((K (F := F)).nSub 0)) : Fin 32 :=
  tileBlk (Fin.cast nCore_zero c) (Fin.cast nSub_zero i)

/-- The call hands each SparseCore its sixteen tiles' blocks, each tile its own, and gets them back gathered. -/
def P : (K (F := F)).Pay (nD := nD) (Val := Elt F) (Name := ℕ) (U := UU) where
  st := fun q d c => match q with | 0 => bigSep Finset.univ fun i => blkIn m tab d (cfgBlk c i)
  dn := fun q d c => match q with | 0 => bigSep Finset.univ fun i => blkOut m tab d (cfgBlk c i)
  go := fun q d c i => match q with | 0 => blkIn m tab d (cfgBlk c i)
  td := fun q d c i => match q with | 0 => blkOut m tab d (cfgBlk c i)
  x := fun _ _ => iprop(emp)

instance P_storable : (P m tab).IsStorable where
  st q d c := match q with
    | 0 => (inferInstance : BI.Storable (upEmb : UEmb _ 𝕄) (bigSep Finset.univ fun i => blkIn m tab d (cfgBlk (F := F) c i)))
  dn q d c := match q with
    | 0 => (inferInstance : BI.Storable (upEmb : UEmb _ 𝕄) (bigSep Finset.univ fun i => blkOut m tab d (cfgBlk (F := F) c i)))
  go q d c i := match q with | 0 => (inferInstance : BI.Storable (upEmb : UEmb _ 𝕄) (blkIn m tab d (cfgBlk (F := F) c i)))
  td q d c i := match q with | 0 => (inferInstance : BI.Storable (upEmb : UEmb _ 𝕄) (blkOut m tab d (cfgBlk (F := F) c i)))

/-- A SparseCore's part is its tiles' parts, and the other way about. -/
theorem vecSplit : (K (F := F)).VecSplit' (P m tab) 0 := by
  intro d c
  show (bigSep Finset.univ fun i => blkIn m tab d (cfgBlk c i)) ⊢ |={Set.univ}=> iprop(
      (bigSep Finset.univ fun i => blkIn m tab d (cfgBlk c i))
      ∗ ((bigSep Finset.univ fun i => blkOut m tab d (cfgBlk c i)) -∗ bigSep Finset.univ fun i => blkOut m tab d (cfgBlk c i)))
  iintro H; imodintro
  isplitl [H]; · iexact H
  iintro H; iexact H

/-! ## The whole arrays as the blocks -/

/-- A block of the targets covers exactly the block's places, -/
theorem tSet_eq (b : Fin 32) : tSet b = (blk b).set := by
  show ((View.whole (main_arg1_scv : Ref sig .scVector)).slice (blk b)).set = _
  rw [View.set_slice]; exact Finset.map_refl
/-- and so does a block of the result. -/
theorem oSet_eq (b : Fin 32) : oSet b = (blk b).set := by
  show ((View.whole (main_v3_scv : Ref sig .scVector)).slice (blk b)).set = _
  rw [View.set_slice]; exact Finset.map_refl

/-- The targets whole are their blocks, -/
theorem tPts_blocks (d : Dev nD) (f : Buf (Elt F) (tLoc d)) :
    (tLoc d ↦{fullShare} f : sProp 𝕄) = bigSep Finset.univ fun b : Fin 32 => tLoc d ↦[tSet b]{fullShare} f := by
  have hd : ∀ i ∈ (Finset.univ : Finset (Fin 32)), ∀ j ∈ (Finset.univ : Finset (Fin 32)), i ≠ j → Disjoint (tSet i) (tSet j) :=
    fun i _ j _ h => by rw [tSet_eq, tSet_eq]; exact Rect.part_disjoint div32 h
  rw [← pointsTo_biUnion Finset.univ (ℓ := tLoc d) tSet hd, Finset.biUnion_congr rfl fun i _ => tSet_eq i]
  exact congrArg (fun s => (tLoc d ↦[s]{fullShare} f : sProp 𝕄)) (Rect.biUnion_part div32).symm
/-- and the gathered elements whole theirs. -/
theorem oPts_blocks (d : Dev nD) (f : Buf (Elt F) (oLoc d)) :
    (oLoc d ↦{fullShare} f : sProp 𝕄) = bigSep Finset.univ fun b : Fin 32 => oLoc d ↦[oSet b]{fullShare} f := by
  have hd : ∀ i ∈ (Finset.univ : Finset (Fin 32)), ∀ j ∈ (Finset.univ : Finset (Fin 32)), i ≠ j → Disjoint (oSet i) (oSet j) :=
    fun i _ j _ h => by rw [oSet_eq, oSet_eq]; exact Rect.part_disjoint div32 h
  rw [← pointsTo_biUnion Finset.univ (ℓ := oLoc d) oSet hd, Finset.biUnion_congr rfl fun i _ => oSet_eq i]
  exact congrArg (fun s => (oLoc d ↦[s]{fullShare} f : sProp 𝕄)) (Rect.biUnion_part div32).symm

/-- Core and tile, numbered by block. -/
def coreTile : Fin 2 × Fin 16 ≃ Fin 32 where
  toFun x := tileBlk x.1 x.2
  invFun b := (⟨b.val % 2, by omega⟩, ⟨b.val / 2, by omega⟩)
  left_inv x := by rcases x with ⟨c, i⟩; apply Prod.ext <;> apply Fin.ext <;> simp <;> omega
  right_inv b := by apply Fin.ext; simp; omega

/-- Something per block is something per tile of each core. -/
theorem bigSep_tiles (Φ : Fin 32 → sProp 𝕄) :
    (bigSep Finset.univ fun c : Fin ((K (F := F)).nCore 0) => bigSep Finset.univ fun i : Fin ((K (F := F)).nSub 0) => Φ (cfgBlk c i))
      = bigSep Finset.univ Φ := by
  rw [bigSep_univ_equiv coreTile Φ]
  exact (bigSep_univ_prod (α := Fin 2) (β := Fin 16) (fun x => Φ (coreTile x))).symm

/-- What the call takes of the whole arrays, -/
theorem st_eq (d : Dev nD) : (bigSep Finset.univ fun c : Fin ((K (F := F)).nCore 0) => (P m tab).st 0 d c)
    = iprop((tLoc d ↦{fullShare} m (tLoc d)) ∗ (cLoc d ↦{fullShare} tab d) ∗ (oLoc d ↦{fullShare} m (oLoc d))) := by
  rw [tPts_blocks, oPts_blocks, pts_leaves Finset.univ (tab d) 5 fullShare]
  refine (bigSep_tiles (blkIn m tab d)).trans ?_
  rw [bigSep_sep', bigSep_sep']; rfl
/-- and what it brings back. -/
theorem dn_eq (d : Dev nD) : (bigSep Finset.univ fun c : Fin ((K (F := F)).nCore 0) => (P m tab).dn 0 d c)
    = iprop((tLoc d ↦{fullShare} m (tLoc d)) ∗ (cLoc d ↦{fullShare} tab d) ∗ (oLoc d ↦{fullShare} gathered (m (tLoc d)) (tab d))) := by
  rw [tPts_blocks, oPts_blocks, pts_leaves Finset.univ (tab d) 5 fullShare]
  refine (bigSep_tiles (blkOut m tab d)).trans ?_
  rw [bigSep_sep', bigSep_sep']; rfl

end Cert.Proof.Smooth

end
-- ==== Proof.Tile.lean ====
/- One tile of the SparseCore call: it fetches its block of targets, computes where each row's chunk has the target's
   lane, gathers those elements of the flat table and writes its block of the result. -/
module

public import proofs.«01_k».proof.Proof.Setup
public import Idealize.ShloMosaic.Lib.Pipeline.Frame
public import Idealize.ShloMosaic.Lib.Ring
public import Idealize.ShloMosaic.Lib.Pipeline.Value

@[expose] public section

noncomputable section

namespace Cert.Proof.Smooth

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ
local notation "tV" => (Memref.whole Cert.KernelIdeal.main_arg1_scv : Memref Cert.KernelIdeal.sig Kind.scVector Space.hbm Cert.KernelIdeal.S4096 EltTy.i32)
local notation "cV" => (Memref.whole Cert.KernelIdeal.main_v2_scv : Memref Cert.KernelIdeal.sig Kind.scVector Space.hbm Cert.KernelIdeal.S524288 EltTy.f32)
local notation "oV" => (Memref.whole Cert.KernelIdeal.main_v3_scv : Memref Cert.KernelIdeal.sig Kind.scVector Space.hbm Cert.KernelIdeal.S4096 EltTy.f32)
local notation "aV" => (Memref.whole Cert.KernelIdeal.cc1_scratch0 : Memref Cert.KernelIdeal.sig Kind.scVector Space.vmem Cert.KernelIdeal.S128 EltTy.i32)
local notation "iV" => (Memref.whole Cert.KernelIdeal.cc1_scratch1 : Memref Cert.KernelIdeal.sig Kind.scVector Space.vmem Cert.KernelIdeal.S128 EltTy.i32)
local notation "gV" => (Memref.whole Cert.KernelIdeal.cc1_scratch2 : Memref Cert.KernelIdeal.sig Kind.scVector Space.vmem Cert.KernelIdeal.S128 EltTy.f32)

variable (m : (ℓ : Loc nD τ sig) → Buf (Elt F) ℓ) (tab : (d : Dev nD) → Buf (Elt F) (cLoc d))

section Body

variable (d : Dev nD) (L : grid1.Coords)

/-- The tile's SparseCore and subcore, as the topology numbers them, -/
abbrev coreOf : Fin τ.nSC := (L 0).castLE hcore1
abbrev subOf : Fin τ.nSub := (L 1).castLE hsub1
/-- There are two SparseCores -/
theorem bound_core : grid1.bound 0 = 2 := rfl
/-- and sixteen subcores in each. -/
theorem bound_sub : grid1.bound 1 = 16 := rfl
/-- and the block it works on. -/
abbrev blkOf : Fin 32 := tileBlk (Fin.cast bound_core (L 0)) (Fin.cast bound_sub (L 1))
/-- The tile as a thread. -/
abbrev thr : Thread nD τ := V d (coreOf L) (subOf L)

/-- The block as the tile computes it, -/
abbrev blkK : Rect S4096 := Rect.unit (s := S4096) (k1_off1 L) S128.size (k1_off1_inb L)
/-- of the targets, -/
abbrev tBlkK : Memref sig .scVector .hbm S128 .i32 := (tV).slice (blkK L) (fun _ => rfl)
/-- of the result, -/
abbrev oBlkK : Memref sig .scVector .hbm S128 .f32 := (oV).slice (blkK L) (fun _ => rfl)
/-- and the table whole. -/
abbrev tabK : Memref sig .scVector .hbm S524288 .f32 := (cV).slice (Rect.unit (s := S524288) ![0] S524288.size inb_S524288_S524288_0) (fun _ => rfl)

/-- The block the tile's code addresses is the one its number names; -/
theorem blkK_eq : blkK L = blk (blkOf L) := by
  unfold blkK blk Rect.part Rect.block
  congr 1 <;> funext a
  · rw [k1_off1_eq]
    match a with
    | 0 =>
      show 256 * (L 1).val + 128 * (L 0).val = ((L 1).val * 2 + (L 0).val) * 128
      omega
  · match a with
    | 0 => simp [Shape.partSize]

/-- so its part of the targets is that block -/
theorem set_tBlkK : (tBlkK L).view.set = tSet (blkOf L) := by
  show ((tV).view.slice (blkK L)).set = ((tV).view.slice (blk (blkOf L))).set
  exact blkK_eq L ▸ rfl
/-- and so is its part of the result. -/
theorem set_oBlkK : (oBlkK L).view.set = oSet (blkOf L) := by
  show ((oV).view.slice (blkK L)).set = ((oV).view.slice (blk (blkOf L))).set
  exact blkK_eq L ▸ rfl

/-- The block's targets held, in the tile's spelling; -/
theorem pts_tBlkK (f : Buf (Elt F) (tLoc d)) :
    ((tBlkK L).view.loc (thr d L) ↦[(tBlkK L).view.set]{fullShare} f : sProp 𝕄) = tLoc d ↦[tSet (blkOf L)]{fullShare} f := by
  rw [set_tBlkK]
/-- the block of the result; -/
theorem pts_oBlkK (f : Buf (Elt F) (oLoc d)) :
    ((oBlkK L).view.loc (thr d L) ↦[(oBlkK L).view.set]{fullShare} f : sProp 𝕄) = oLoc d ↦[oSet (blkOf L)]{fullShare} f := by
  rw [set_oBlkK]
/-- the table at a share; -/
theorem pts_cV (q : PosShare TreeShare) (f : Buf (Elt F) (cLoc d)) :
    ((cV).view.loc (thr d L) ↦{q} f : sProp 𝕄) = cLoc d ↦{q} f := rfl
/-- the three scratch buffers. -/
theorem pts_aV (f : Buf (Elt F) ((thr d L).loc cc1_scratch0)) :
    ((aV).view.loc (thr d L) ↦{fullShare} f : sProp 𝕄) = (thr d L).loc cc1_scratch0 ↦{fullShare} f := rfl
/-- The same of the scratch that holds the places -/
theorem pts_iV (f : Buf (Elt F) ((thr d L).loc cc1_scratch1)) :
    ((iV).view.loc (thr d L) ↦{fullShare} f : sProp 𝕄) = (thr d L).loc cc1_scratch1 ↦{fullShare} f := rfl
/-- and of the one that holds the fetched elements. -/
theorem pts_gV (f : Buf (Elt F) ((thr d L).loc cc1_scratch2)) :
    ((gV).view.loc (thr d L) ↦{fullShare} f : sProp 𝕄) = (thr d L).loc cc1_scratch2 ↦{fullShare} f := rfl

/-- The tile's three transfer semaphores: the gather's, the fetch's, the write-out's. -/
abbrev cellG : GSem nD τ sig := (thr d L, .dma cc1_scratch3.sem)
abbrev cellA : GSem nD τ sig := (thr d L, .dma cc1_scoped0.sem)
abbrev cellB : GSem nD τ sig := (thr d L, .dma cc1_scoped1.sem)

/-- They are among the tile's own. -/
theorem ownSems0_thr :
    (ownSems0 (thr d L) : sProp 𝕄)
      = iprop(semVal (cellG d L) 0 ∗ semVal (cellA d L) 0 ∗ semVal (cellB d L) 0
          ∗ bigSep ((((ownCells (thr d L)).erase (cellG d L)).erase (cellA d L)).erase (cellB d L)) fun g => semVal g 0) := by
  unfold SparseCore.Cfg.ownSems0
  rw [SparseCore.bigSep_erase' ((mem_ownCells (g := cellG d L)).mpr ⟨rfl, by
      show (SemLoc.dma cc1_scratch3.sem : SemLoc sig).isScoped .scVector = true; decide⟩),
    SparseCore.bigSep_erase' (Finset.mem_erase.mpr ⟨by simp [cellG, cellA]; decide, (mem_ownCells (g := cellA d L)).mpr ⟨rfl, by
      show (SemLoc.dma cc1_scoped0.sem : SemLoc sig).isScoped .scVector = true; decide⟩⟩),
    SparseCore.bigSep_erase' (Finset.mem_erase.mpr ⟨by simp [cellB, cellA]; decide, Finset.mem_erase.mpr ⟨by simp [cellG, cellB]; decide,
      (mem_ownCells (g := cellB d L)).mpr ⟨rfl, by show (SemLoc.dma cc1_scoped1.sem : SemLoc sig).isScoped .scVector = true; decide⟩⟩⟩)]

/-- The scratch buffers are among the tile's own. -/
theorem ownBufs_thr :
    (ownBufs (thr d L) : sProp 𝕄)
      = iprop((∃ f, (thr d L).loc cc1_scratch0 ↦{fullShare} f) ∗ (∃ f, (thr d L).loc cc1_scratch1 ↦{fullShare} f)
          ∗ (∃ f, (thr d L).loc cc1_scratch2 ↦{fullShare} f)
          ∗ bigSep ((((ownRefs (τ := τ) (.scVector (coreOf L) (subOf L))).erase ((Proc.scVector (coreOf L) (subOf L)).devRef cc1_scratch0)).erase
              ((Proc.scVector (coreOf L) (subOf L)).devRef cc1_scratch1)).erase ((Proc.scVector (coreOf L) (subOf L)).devRef cc1_scratch2))
              fun b => iprop(∃ f, ((d, b) : Loc nD τ sig) ↦{fullShare} f)) := by
  have hmem : ∀ r : Ref sig .scVector, ((Proc.scVector (coreOf L) (subOf L)).devRef r).owner = ((Proc.scVector (coreOf L) (subOf L)).devRef cc1_scratch0).owner →
      (Proc.scVector (coreOf L) (subOf L)).devRef r ∈ ownRefs (τ := τ) (.scVector (coreOf L) (subOf L)) := fun r h =>
    SparseCore.Cfg.mem_ownRefs_of_owner (p := Proc.scVector (coreOf L) (subOf L)) (b := (Proc.scVector (coreOf L) (subOf L)).devRef r) h
  have hne : ∀ r r' : Ref sig .scVector, r ≠ r' → (Proc.scVector (coreOf L) (subOf L)).devRef r ≠ (Proc.scVector (coreOf L) (subOf L)).devRef r' :=
    fun r r' h e => absurd (Proc.devRef_injective _ e) h
  unfold SparseCore.Cfg.ownBufs
  refine (SparseCore.bigSep_erase' (hmem cc1_scratch0 rfl)).trans ?_
  rw [SparseCore.bigSep_erase' (Finset.mem_erase.mpr ⟨hne cc1_scratch1 cc1_scratch0 (by decide), hmem cc1_scratch1 rfl⟩),
    SparseCore.bigSep_erase' (Finset.mem_erase.mpr ⟨hne cc1_scratch2 cc1_scratch1 (by decide),
      Finset.mem_erase.mpr ⟨hne cc1_scratch2 cc1_scratch0 (by decide), hmem cc1_scratch2 rfl⟩⟩)]

/-! ## The words of the list -/

/-- The word of element `y` of a block based at `b` with targets `t`. -/
def blkWord (b : BitVec 32) (t : S128.Idx → BitVec 32) (y : S128.Idx) : BitVec 32 :=
  (b + BitVec.ofNat 32 (y 0).val) * 128#32 + (t y &&& 127#32)

/-- Where a tile's block starts, as the tile computes it. -/
abbrev baseK : BitVec 32 := Scalar.muli (Scalar.addi (Scalar.muli (BitVec.ofNat 32 (L 1).val) 2#32) (BitVec.ofNat 32 (L 0).val)) 128#32

/-- What one group of sixteen lanes stores, from its targets `v`: what every group's text comes to. -/
abbrev grpVec (b c : BitVec 32) (v : Vec F S16 .i32) : IVec S16 32 :=
  shapeCast S16 (addi (muli (addi (broadcast S16 (Scalar.addi b c)) (iota .scVector S16 32 [0] iota_S16_d0_w32_scVector)) (broadcast S16 128#32))
    (andi (shapeCast S16 v shapeCasts_S16_S16) (broadcast S16 127#32))) shapeCasts_S16_S16

/-- The group at offset `k` stores the words of the block there. -/
theorem grpVec_eq (b : BitVec 32) (k : ℕ) (inb : ∀ a, (![k] : Fin 1 → ℕ) a + S16.size a ≤ S128.size a) (f : Buf (Elt F) ((thr d L).loc cc1_scratch0))
    (x : S16.Idx) :
    grpVec (F := F) b (BitVec.ofNat 32 k) ((aV).view.readAt (Elt F) (Rect.unit (s := S128) ![k] S16.size inb).toLoadRect f) x
      = blkWord b ((aV).view.read (Elt F) f) ((Rect.unit (s := S128) ![k] S16.size inb).emb x) := by
  unfold grpVec blkWord
  rw [shapeCast_self, shapeCast_self]
  have e : ((Rect.unit (s := S128) ![k] S16.size inb).emb x 0).val = k + (x 0).val := by
    show k + 1 * (x 0).val = k + (x 0).val
    rw [Nat.one_mul]
  rw [e, BitVec.ofNat_add, ← BitVec.add_assoc]
  show (b + BitVec.ofNat 32 k + BitVec.ofNat 32 (0 * 16 + (x 0).val)) * 128#32 + _ = _
  rw [Nat.zero_mul, Nat.zero_add]
  rfl

/-- The targets of the tile's block. -/
abbrev blkTgt : S128.Idx → BitVec 32 := fun y => (m (tLoc d) : S4096.Idx → BitVec 32) ((blkK L).emb y)

/-- The base is the block's first element. -/
theorem baseK_toNat : (baseK L).toNat = k1_off1 L 0 := rfl

/-- The tile's first row, from its two coordinates. -/
theorem off_eq : k1_off1 L 0 = 256 * (L 1).val + 128 * (L 0).val := congrFun (k1_off1_eq L) 0

/-- The word as a number: no step wraps. -/
theorem blkWord_toNat (t : S128.Idx → BitVec 32) (y : S128.Idx) :
    (blkWord (baseK L) t y).toNat = (k1_off1 L 0 + (y 0).val) * 128 + (t y &&& 127#32).toNat := by
  have h0 : (L 0).val < 2 := (L 0).isLt
  have h1 : (L 1).val < 16 := (L 1).isLt
  have hy : (y 0).val < 128 := (y 0).isLt
  have hl := lane_lt (t y)
  have ho := off_eq L
  unfold blkWord
  rw [BitVec.toNat_add, BitVec.toNat_mul, BitVec.toNat_add, baseK_toNat, BitVec.toNat_ofNat, show (128#32 : BitVec 32).toNat = 128 from rfl]
  generalize (t y &&& 127#32).toNat = n at *
  omega

/-- It lies in the table. -/
theorem blkWord_lt (t : S128.Idx → BitVec 32) (y : S128.Idx) : (blkWord (baseK L) t y).toNat < 524288 := by
  have h0 : (L 0).val < 2 := (L 0).isLt
  have h1 : (L 1).val < 16 := (L 1).isLt
  have hy : (y 0).val < 128 := (y 0).isLt
  have hl := lane_lt (t y)
  have ho := off_eq L
  rw [blkWord_toNat]; omega

/-- What the gather brings for element `x` of the block: the gathered value of the element it is. -/
theorem gather_val (fo : S128.Idx → Elt F .i32) (hn : S128.numel = S128.size (gathers_S524288_S128).axis')
    (hin : ∀ x, (fo x).toNat < S524288.size (gathers_S524288_S128).axis)
    (hfo : ∀ x, fo x = blkWord (baseK L) (blkTgt m d L) x) (x : S128.Idx) :
    SparseCore.gatherPayload gathers_S524288_S128 ((tabK).view.read (Elt F) (tab d)) (SparseCore.rows fo hn hin) x
      = gathered (m (tLoc d)) (tab d) ((blkK L).emb x) := by
  have hread : ∀ j : S524288.Idx, (tabK).view.read (Elt F) (tab d) j = tab d j := fun j => by
    show tab d ((Rect.unit (s := S524288) ![0] S524288.size inb_S524288_S524288_0).emb j) = tab d j
    exact congrArg (tab d) (Rect.emb_eq_of_coords _ _ _ fun a => by
      match a with
      | 0 => show (j 0).val = 0 + 1 * (j 0).val; omega)
  unfold SparseCore.gatherPayload gathered
  rw [hread]
  refine congrArg (tab d) (funext fun a => Fin.ext ?_)
  match a with
  | 0 =>
    have hx : S128.rowMajor.symm ((x 0).cast hn.symm) = x := by
      rw [Equiv.symm_apply_eq]; apply Fin.ext
      exact (Shape.rowMajor_val_one x).symm
    refine (congrArg Fin.val (Shape.Gathers.idx_axis gathers_S524288_S128 (SparseCore.rows fo hn hin) x)).trans ?_
    show (fo (S128.rowMajor.symm ((x 0).cast hn.symm))).toNat = (((blkK L).emb x) 0).val * 128 + (blkTgt m d L x &&& 127#32).toNat
    rw [hx, hfo, blkWord_toNat]
    have e : (((blkK L).emb x) 0).val = k1_off1 L 0 + (x 0).val := by
      show k1_off1 L 0 + 1 * (x 0).val = _
      rw [Nat.one_mul]
    rw [e]

set_option maxHeartbeats 4000000 in
/-- A tile's code, given its block of the targets and of the result and a share of the table, returns them with the
block of the result gathered. -/
theorem tile_body (hF : (K (F := F)).Facts) (O : CellTallies nD τ sig (HIx 1)) (W : Waits sig (HIx 1)) (hO : ∀ g, O g none = 0) :
    iprop(levAts (K (F := F)).L (K (F := F)).lev ∗ emp
        ∗ blkIn m tab d (blkOf L)
        ∗ scopedBufs (thr d L) ∗ scopedSems0 (thr d L) ∗ owes (thr d L) O W)
      ⊢ wp frame (wpE (defs₀ (F := F)) 𝒱₀ (thr d L) none) Set.univ
          (cc1__sc_gather_body L cV (Memref.isWhole_whole _) tV (Memref.isWhole_whole _) oV (Memref.isWhole_whole _)
            aV (Memref.isWhole_whole _) iV (Memref.isWhole_whole _) gV (Memref.isWhole_whole _) cc1_scratch3 cc1_scoped0 cc1_scoped1)
          fun _ => iprop(blkOut m tab d (blkOf L)
            ∗ scopedBufs (thr d L) ∗ scopedSems0 (thr d L)
            ∗ ∃ W', ⌜∀ p ∈ W', p ∈ W ∨ p.2 = none⌝ ∗ owes (thr d L) O W') := by
  simp only [cc1__sc_gather_body_eq_skeleton]; unfold cc1__sc_gather_body_skel
  simp only [k1_part1_eq_skeleton, k1_part2_eq_skeleton, k1_part3_eq_skeleton]
  unfold k1_part1_skel k1_part2_skel k1_part3_skel
  rw [(K (F := F)).scopedBufs_V hF d (coreOf L) (subOf L), SparseCore.Cfg.scopedSems0_V (Val := Elt F) d (coreOf L) (subOf L), ownSems0_thr, ownBufs_thr]
  iintro ⟨#Hlv, -, ⟨Ht, Hc, Ho⟩, ⟨⟨%fa, Ha⟩, ⟨%fi, Hi⟩, ⟨%fg, Hg⟩, Hbufs⟩, ⟨HsemG, HsemA, HsemB, Hsems⟩, HO⟩
  ihave Hmw := (show levAts (K (F := F)).L (K (F := F)).lev ⊢ Transfers.MayWaits (thr d L) (default : HIx 1) O from
    (K (F := F)).mayWaits_none (thr := thr d L) hO) $$ Hlv
  ihave Ht' := (Entails.of_eq (pts_tBlkK (F := F) d L _).symm) $$ Ht
  ihave Ho' := (Entails.of_eq (pts_oBlkK (F := F) d L _).symm) $$ Ho
  ihave Hc' := (Entails.of_eq (pts_cV (F := F) d L _ _).symm) $$ Hc
  ihave Ha' := (Entails.of_eq (pts_aV (F := F) d L _).symm) $$ Ha
  ihave Hi' := (Entails.of_eq (pts_iV (F := F) d L _).symm) $$ Hi
  ihave Hg' := (Entails.of_eq (pts_gV (F := F) d L _).symm) $$ Hg
  sl_exec
  -- the list the eight groups leave
  -- the list the eight groups leave
  have hl : ∀ x : S128.Idx, (iV).view.read (Elt F) ((iV).view.writes (Elt F) (iV).view.junk (tile_body.sl.Hi'_8 m d L fa)) x
      = blkWord (baseK L) (blkTgt m d L) x := fun x => by
    have ha : (aV).view.read (Elt F) (View.write (Elt F) (aV).view fa (tile_body.sl.dma0 m d L) Finset.univ) = blkTgt m d L := by
      rw [View.read_write_univ]
      delta tile_body.sl.dma0; rfl
    rw [show blkWord (baseK L) (blkTgt m d L) x = blkWord (baseK L)
      ((aV).view.read (Elt F) (View.write (Elt F) (aV).view fa (tile_body.sl.dma0 m d L) Finset.univ)) x from
      (congrFun (congrArg (blkWord (baseK L)) ha) x).symm]
    refine View.read_writes_apply_of_pieces _ _ (e := .i32) (Val := Elt F) (blkWord (baseK L) _) _ ?_ x (View.cover_of_tiledL (s := S128) (tile_body.sl.Hi'_8 m d L fa) S16.size (by sl_kernel_rfl) x)
    delta tile_body.sl.Hi'_8
    simp only [List.forall_mem_cons]
    refine ⟨?_, ?_, ?_, ?_, ?_, ?_, ?_, ?_, fun _ h => absurd h List.not_mem_nil⟩
    · exact fun x => grpVec_eq d L (baseK L) 112 _ _ x
    · exact fun x => grpVec_eq d L (baseK L) 96 _ _ x
    · exact fun x => grpVec_eq d L (baseK L) 80 _ _ x
    · exact fun x => grpVec_eq d L (baseK L) 64 _ _ x
    · exact fun x => grpVec_eq d L (baseK L) 48 _ _ x
    · exact fun x => grpVec_eq d L (baseK L) 32 _ _ x
    · exact fun x => grpVec_eq d L (baseK L) 16 _ _ x
    · exact fun x => grpVec_eq d L (baseK L) 0 _ _ x
  have hin : ∀ x, ((iV).view.read (Elt F) ((iV).view.writes (Elt F) (iV).view.junk (tile_body.sl.Hi'_8 m d L fa)) x).toNat
      < S524288.size (gathers_S524288_S128).axis := fun x => by rw [hl]; exact blkWord_lt L _ x
  -- the gather: a share of the table's elements, the row buffer, the list and the semaphore go in
  ihave Hcs := (pointsTo_split_subset (q := shareOf (blkOf L)) (f := tab d) (S := Finset.univ) (Finset.subset_univ (tabK).view.set)).1 $$ Hc'
  icases Hcs with ⟨Hcs, Hcr⟩
  have hgs : (gV).view.set = Finset.univ := View.set_whole _
  have his : (iV).view.set = Finset.univ := View.set_whole _
  ihave Hg'' := (Entails.of_eq (show ((gV).view.loc (thr d L) ↦{fullShare} fg : sProp 𝕄)
      = (gV).view.loc (thr d L) ↦[(gV).view.set]{fullShare} fg by rw [hgs])) $$ Hg'
  ihave Hi'' := (Entails.of_eq (show ((iV).view.loc (thr d L) ↦{fullShare} _ : sProp 𝕄)
      = (iV).view.loc (thr d L) ↦[(iV).view.set]{fullShare} (iV).view.writes (Elt F) (iV).view.junk (tile_body.sl.Hi'_8 m d L fa) by rw [his])) $$ Hi'
  have hN : ∀ h : S524288.Gathers 0 S128, ∑ j, ((gV).slice (S128.rowRect h.axis' j) (S128.stride_rowRect h.axis' j)).view.dmaCredit
      = (gV).view.dmaCredit := by decide
  iapply (SparseCore.wp_indirectGatherLocal countersEmb 𝒱₀ (thr d L) none (hg := gathers_S524288_S128) (default : HIx 1)
      (gV).view.dmaCredit (hN _) (by decide) hin) $$ [Hcs Hg'' Hi'' HsemG]
  · isplitl [Hcs]; · iexact Hcs
    isplitl [Hg'']; · iexact Hg''
    isplitl [Hi'']; · iexact Hi''
    iexact HsemG
  iintro Hfl
  sl_exec
  -- its wait
  iapply (Transfers.wp_waitLocalO countersEmb 𝒱₀ (thr d L) none (default : HIx 1) (rfl : (gV).view.dmaCredit = _)) $$ [Hfl HO]
  · isplitl [Hfl]; · iexact Hfl
    isplitl [HO]; · iexact HO
    iapply (Transfers.MayWaits.elim (SemLoc.dma cc1_scratch3.sem)) $$ Hmw
  iintro ⟨⟨Hg', Hcs, Hi'⟩, HsemG, HO⟩
  ihave Hc' := (pointsTo_split_subset (q := shareOf (blkOf L)) (f := tab d) (S := Finset.univ) (Finset.subset_univ (tabK).view.set)).2 $$ [Hcs Hcr]
  · isplitl [Hcs] <;> iassumption
  ihave Hg3 := (Entails.of_eq (show ((gV).view.loc (thr d L) ↦[(gV).view.set]{fullShare} _ : sProp 𝕄)
      = (gV).view.loc (thr d L) ↦{fullShare} _ by rw [hgs])) $$ Hg'
  ihave Hi3 := (Entails.of_eq (show ((iV).view.loc (thr d L) ↦[(iV).view.set]{fullShare} _ : sProp 𝕄)
      = (iV).view.loc (thr d L) ↦{fullShare} _ by rw [his])) $$ Hi'
  sl_exec
  sl_step
  -- what stands in the block of the result
  ihave Ho2 := (Entails.of_eq ((pointsTo_congr (ℓ := oLoc d) fun i hi => by
      obtain ⟨x, hx⟩ := (blkK L).exists_idx_of_mem (by rw [blkK_eq, ← oSet_eq, ← set_oBlkK]; exact hi)
      subst hx
      refine Eq.trans ?_ (gather_val m tab d L _ k1_part3_skel._proof_12 hin hl x)
      show (oBlkK L).view.read (Elt F) ((oBlkK L).view.writes (Elt F) (m (oLoc d)) [⟨Rect.whole S128, tile_body.sl.dma0_1 m tab d L fa fg hin⟩]) x = _
      rw [View.read_writes_whole]
      delta tile_body.sl.dma0_1
      rw [View.read_write_univ]).trans (pts_oBlkK (F := F) d L _))) $$ Ho'
  ihave Ht2 := (Entails.of_eq (pts_tBlkK (F := F) d L _)) $$ Ht'
  isplitl [Ht2 Hc' Ho2]
  · isplitl [Ht2]; · iexact Ht2
    isplitl [Hc']; · iexact Hc'
    iexact Ho2
  isplitl [Ha' Hi3 Hg3 Hbufs]
  · isplitl [Ha']; · iexists _; iexact Ha'
    isplitl [Hi3]; · iexists _; iexact Hi3
    isplitl [Hg3]; · iexists _; iexact Hg3
    iexact Hbufs
  isplitl [HsemG HsemA HsemB Hsems]
  · isplitl [HsemG]; · iexact HsemG
    isplitl [HsemA]; · iexact HsemA
    isplitl [HsemB]; · iexact HsemB
    iexact Hsems
  iexists _; isplitr
  swap; · iexact HO
  ipureintro
  intro p hp
  rcases Finset.mem_insert.mp hp with h | hp
  · exact Or.inr (congrArg Prod.snd h)
  rcases Finset.mem_insert.mp hp with h | hp
  · exact Or.inr (congrArg Prod.snd h)
  rcases Finset.mem_insert.mp hp with h | hp
  · exact Or.inr (congrArg Prod.snd h)
  exact Or.inl hp

end Body

/-- The tile's place in the grid. -/
def tileAt (c : Fin (grid1.bound 0)) (s : Fin (grid1.bound 1)) : grid1.Coords :=
  fun | 0 => c | 1 => s | ⟨_ + 2, h⟩ => absurd h (Nat.not_lt.2 (Nat.le_add_left _ _))

/-- The label a subcore starts at runs the tile's code. -/
theorem defs₀_tile (c : Fin τ.nSC) (s : Fin τ.nSub) :
    defs₀ (F := F) (.scVector c s) 1 ()
      = SparseCore.onTile hcore1 hsub1 (fun c s => cc1__sc_gather_body (tileAt c s)
          cV (Memref.isWhole_whole _) tV (Memref.isWhole_whole _) oV (Memref.isWhole_whole _)
          aV (Memref.isWhole_whole _) iV (Memref.isWhole_whole _) gV (Memref.isWhole_whole _) cc1_scratch3 cc1_scoped0 cc1_scoped1) ⟨⟩ c s := rfl

/-- Waits with no index lie among those the launch allows. -/
theorem post_weaken {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW, HO⟩
  iframe HA HB HC
  iexists W'; isplitr
  · ipureintro; exact fun p hp => (hW p hp).imp_right Or.inl
  · iexact HO

set_option maxRecDepth 16384 in
/-- Every tile keeps what the launch asks of it. -/
theorem tileObl (hF : (K (F := F)).Facts) : (K (F := F)).TileObl (D (F := F)) 𝒱 (P m tab) v₀ 0 := by
  intro d c i O W hO _ _
  simp only [show (P m tab).ox = fun _ _ => 0 from rfl, add_zero]
  have hb : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_tile]; simp only [SparseCore.onTile, hb, and_self, ↓reduceDIte]
  exact (tile_body m tab d (tileAt ⟨_, hb.1⟩ ⟨_, hb.2⟩) hF O W hO).trans (wp_mono frame _ _ fun _ => post_weaken)

end Cert.Proof.Smooth

end
-- ==== Proof.Slabs.lean ====
/-
  The first call's block in closed form. A block is 1024 rows by 6400 columns, fifty slabs of 128 lanes side by
  side. The call adds the slabs up (less the ignored class' column), and adds them up again each under the mask of
  the rows whose target lies in it. Here the two sums are recursions over the slabs, and the kernel's unrolled text
  is shown to be these recursions at fifty.
-/
module

public import proofs.«01_k».proof.Proof.Gen.KernelIdeal.Skeleton

@[expose] public section

set_option maxRecDepth 16384

noncomputable section

namespace Cert.Proof.Smooth

open Cert.KernelIdeal Cert.KernelIdeal.Gen
open Idealize.ShloMosaic

variable {F : FTy → Type} [FloatOps F] [Named F]

/-- A slab lies in the block. -/
theorem slab_in (k : Fin 50) : S1024x6400.Slices ![0, 128 * k.val] S1024x128 := by
  refine ⟨rfl, fun a => ?_⟩
  have := k.isLt
  match a with
  | 0 => exact Nat.le_refl 1024
  | 1 => show 128 * k.val + 128 ≤ 6400; omega

/-- The block's slab `k`. -/
def slab (X : Vec F S1024x6400 .f32) (k : Fin 50) : FVec F S1024x128 .f32 :=
  extractStridedSlice S1024x128 ![0, 128 * k.val] X (slab_in k)

/-- The ignored class' column, on lane 0 of the first block of columns only; zero elsewhere. -/
def ignored (i : grid0.Coords) (X : Vec F S1024x6400 .f32) : FVec F S1024x128 .f32 :=
  select (andi (cmpi .eq (iota .tc S1024x128 32 [1] iota_S1024x128_d1_w32) (broadcast S1024x128 0#32))
      (broadcast S1024x128 (Scalar.cmpi .eq (BitVec.ofNat 32 (i 1).val) 0#32)))
    (broadcastTo S1024x128 (shapeCast S1024x1 (extractStridedSlice S1024x1 ![0, 0] X slices_S1024x6400_o0_0_S1024x1)
      shapeCasts_S1024x1_S1024x1) broadcasts_S1024x1_S1024x128)
    (broadcast S1024x128 (Scalar.ofBits .f32 0x00000000#32))

/-- The sum of the first `n` slabs less the ignored column. -/
def rowsUpTo (i : grid0.Coords) (X : Vec F S1024x6400 .f32) : (n : ℕ) → n ≤ 50 → FVec F S1024x128 .f32
  | 0, _ => subf (broadcast S1024x128 (Scalar.ofBits .f32 0x00000000#32)) (ignored i X)
  | n + 1, h => addf (rowsUpTo i X n (Nat.le_of_succ_le h)) (slab X ⟨n, h⟩)

/-- The rows whose target lies in slab `k` of the block: one there, zero elsewhere. -/
def slabMask (i : grid0.Coords) (T : Vec F S1024x1 .i32) (k : Fin 50) : FVec F S1024x128 .f32 :=
  broadcastTo S1024x128 (sitofp .f32 (extui 32 (cmpi .eq (shrsi (shapeCast S1024x1 T shapeCasts_S1024x1_S1024x1) (broadcast S1024x1 7#32))
    (broadcast S1024x1 (Scalar.addi (Scalar.muli (BitVec.ofNat 32 (i 1).val) 50#32) (BitVec.ofNat 32 k.val)))) natLt_1_32))
    broadcasts_S1024x1_S1024x128

/-- The sum of the first `n` slabs, each under its mask. -/
def chunkUpTo (i : grid0.Coords) (X : Vec F S1024x6400 .f32) (T : Vec F S1024x1 .i32) : (n : ℕ) → n ≤ 50 → FVec F S1024x128 .f32
  | 0, _ => broadcast S1024x128 (Scalar.ofBits .f32 0x00000000#32)
  | n + 1, h => addf (chunkUpTo i X T n (Nat.le_of_succ_le h)) (mulf (slab X ⟨n, h⟩) (slabMask i T ⟨n, h⟩))

/-- What a point adds to the row sums, -/
def rowsPart (i : grid0.Coords) (X : Vec F S1024x6400 .f32) : FVec F S1024x128 .f32 := rowsUpTo i X 50 (Nat.le_refl 50)
/-- and to the target's slab. -/
def chunkPart (i : grid0.Coords) (X : Vec F S1024x6400 .f32) (T : Vec F S1024x1 .i32) : FVec F S1024x128 .f32 := chunkUpTo i X T 50 (Nat.le_refl 50)

/-- The kernel's running sum before its last slab. -/
def rowsRun (i : grid0.Coords) (X : Vec F S1024x6400 .f32) : FVec F S1024x128 .f32 :=
  k0_pay82 X (k0_pay74 X (k0_pay68 X (k0_pay60 X (k0_pay52 X (k0_pay46 X (k0_pay38 X (k0_pay30 X (k0_pay25 X (k0_pay17 X (k0_pay11 i X))))
    (k0_pay32 X)))))))

/-- The kernel's running masked sum before its last two slabs. -/
def chunkRun (i : grid0.Coords) (X : Vec F S1024x6400 .f32) (T : Vec F S1024x1 .i32) : FVec F S1024x128 .f32 :=
  let a : BitVec 32 := BitVec.ofNat 32 (i 1).val
  let t : IVec S1024x1 32 := k0_pay6 T
  let w2 := k0_pay15 a X t (k0_pay9 i X T) (k0_pay10 X) 50#32
  let w3 := k0_pay23 a X t w2 (k0_pay16 X) (k0_pay18 a t)
  let w4 := k0_pay31 a X t w3 (k0_pay24 X) (Scalar.addi (Scalar.muli a 50#32) 11#32)
  let w5 := k0_pay36 a X t w4 (k0_pay32 X)
  let w6 := k0_pay44 a X t w5 (k0_pay37 X) (k0_pay39 a t)
  let w7 := k0_pay50 a X t w6 (k0_pay45 X) (Scalar.muli a 50#32)
  let w8 := k0_pay58 a X t w7 (k0_pay53 a X t)
  let w9 := k0_pay66 a X t w8 (k0_pay59 X) (k0_pay61 a)
  let w10 := k0_pay72 a X t w9 (k0_pay67 X)
  k0_pay80 a X t w10 (k0_pay73 X) (k0_pay75 a t)

/-- The first store's payload is the closed sum, -/
theorem pay2_eq (i : grid0.Coords) (X : Vec F S1024x6400 .f32) : k0_pay2 X (rowsRun i X) = rowsPart i X := rfl

/-- and the masked one's. -/
theorem pay3_eq (i : grid0.Coords) (X : Vec F S1024x6400 .f32) (T : Vec F S1024x1 .i32) :
    k0_pay3 (BitVec.ofNat 32 (i 1).val) X (k0_pay6 T) (chunkRun i X T) (k0_pay81 X) (Scalar.muli (BitVec.ofNat 32 (i 1).val) 50#32) 48#32
      = chunkPart i X T := rfl

end Cert.Proof.Smooth

end
-- ==== Proof.First.lean ====
/-
  The first call at one grid point: from the block of scores and the block of targets it leaves the two sums of
  Slabs.lean in its two output buffers, at the first block of columns by themselves, at a later one added to what
  the point before left there.
-/
module

public import proofs.«01_k».proof.Proof.Setup
public import proofs.«01_k».proof.Proof.Slabs
public import Idealize.ShloMosaic.Lib.Pipeline.FrameBody
public import Idealize.ShloMosaic.Lib.Pipeline.TableIdle
public import Idealize.ShloMosaic.Lib.Pipeline.Value
public import Idealize.ShloMosaic.Lib.Pipeline.Regions
public import Idealize.ShloMosaic.Lib.Ring
public import Idealize.ShloMosaic.Lib.WordCmp

@[expose] public section

set_option maxRecDepth 16384

noncomputable section

namespace Cert.Proof.Smooth

open Cert.KernelIdeal Cert.KernelIdeal.Gen

open Idealize.ShloMosaic
open Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig (HIx 1) (Elt F) ℕ UU ℕ

/-! ## Which points start a row of blocks -/

/-- A point is the first of its row of blocks when its column is 0: as the kernel tests it, twice, -/
theorem first_iff (t : Fin cfg0.N) : (k0_cond1 (grid0.coords t) = 1#1 ↔ t.val % 5 = 0) ∧ (k0_cond3 (grid0.coords t) = 1#1 ↔ t.val % 5 = 0) :=
  (by decide +kernel : ∀ t : Fin grid0.N, (k0_cond1 (grid0.coords t) = 1#1 ↔ t.val % 5 = 0) ∧ (k0_cond3 (grid0.coords t) = 1#1 ↔ t.val % 5 = 0)) t
/-- and the other test is the negation. -/
theorem later_iff (t : Fin cfg0.N) : (k0_cond2 (grid0.coords t) = 1#1 ↔ ¬ t.val % 5 = 0) ∧ (k0_cond4 (grid0.coords t) = 1#1 ↔ ¬ t.val % 5 = 0) :=
  (by decide +kernel : ∀ t : Fin grid0.N, (k0_cond2 (grid0.coords t) = 1#1 ↔ ¬ t.val % 5 = 0) ∧ (k0_cond4 (grid0.coords t) = 1#1 ↔ ¬ t.val % 5 = 0)) t

/-! ## The body -/

/-- The whole-buffer accesses start at zero. -/
theorem zeros : (![0, 0] : Fin 2 → ℕ) = fun _ => 0 := funext fun a => match a with | 0 => rfl | 1 => rfl

/-- Reading a buffer whole, held at what reads as `X`, gives `X`. -/
theorem load_whole {S : Shape} {e : EltTy} {a : Memref sig .tc .vmem S e} (h : a.IsWhole) (X : S.Idx → Elt F e) {off : Fin S.rank → ℕ}
    (hz : off = fun _ => 0) (inb : ∀ x, off x + S.size x ≤ S.size x) :
    View.readAt (Elt F) a.view (Rect.unit off S.size inb).toLoadRect (h.unread X) = X := by
  rw [View.readAt_eq_ld, h.read_unread, View.ld_unit_zero hz]

/-- Storing a buffer whole leaves what was stored. -/
theorem store_whole {S : Shape} {e : EltTy} {sp : Space} {a : Memref sig .tc sp S e} (f : a.view.ty.Contents (Elt F)) {off : Fin S.rank → ℕ}
    (hz : off = fun _ => 0) (inb : ∀ x, off x + S.size x ≤ S.size x) (w : S.Idx → Elt F e) :
    a.view.read (Elt F) (a.view.writes (Elt F) f [⟨Rect.unit off S.size inb, w⟩]) = w :=
  (View.read_writes_eq_canon _ _ _ fun y => ⟨_, List.mem_singleton_self _, View.mem_set_unit_zero hz inb y⟩).trans (View.canon_unit_zero hz _ _)

section Body

variable (c : Dev nD) (i : grid0.Coords)
  (a0 : Memref sig .tc .vmem S1024x6400 .f32) (h0 : a0.IsWhole) (a1 : Memref sig .tc .vmem S1024x1 .i32) (h1 : a1.IsWhole)
  (a2 : Memref sig .tc .vmem S1024x128 .f32) (h2 : a2.IsWhole) (a3 : Memref sig .tc .vmem S1024x128 .f32) (h3 : a3.IsWhole)
  (X : Vec F S1024x6400 .f32) (T : Vec F S1024x1 .i32)

set_option maxHeartbeats 1000000 in
/-- At the first block of columns the body leaves its two sums. -/
theorem body_first (hc1 : k0_cond1 i = 1#1) (hc2 : ¬k0_cond2 i = 1#1) (hc3 : k0_cond3 i = 1#1) (hc4 : ¬k0_cond4 i = 1#1)
    (E : Set ℕ) (Q : PUnit → sProp 𝕄) :
    iprop(owns (c : Thread nD τ) a0 fullShare X ∗ owns (c : Thread nD τ) a1 fullShare T
        ∗ (∃ d, owns (c : Thread nD τ) a2 fullShare d) ∗ (∃ d, owns (c : Thread nD τ) a3 fullShare d)
        ∗ (iprop(owns (c : Thread nD τ) a0 fullShare X ∗ owns (c : Thread nD τ) a1 fullShare T
            ∗ owns (c : Thread nD τ) a2 fullShare (rowsPart i X) ∗ owns (c : Thread nD τ) a3 fullShare (chunkPart i X T)) -∗ Q ⟨⟩))
      ⊢ wp frame (wpE (defs₀ (F := F)) 𝒱₀ c none) E (cc0__s1_body i a0 h0 a1 h1 a2 h2 a3 h3) Q := by
  simp only [cc0__s1_body_eq_skeleton]; unfold cc0__s1_body_skel
  simp only [k0_part1_eq_skeleton, k0_part2_eq_skeleton, k0_part3_eq_skeleton, k0_part4_eq_skeleton, k0_part5_eq_skeleton,
    k0_part6_eq_skeleton, k0_part7_eq_skeleton, k0_part8_eq_skeleton, k0_part9_eq_skeleton, k0_part10_eq_skeleton, k0_part11_eq_skeleton]
  unfold owns
  iintro ⟨⟨%f0, %hf0, H0⟩, ⟨%f1, %hf1, H1⟩, ⟨%d2, %f2, -, H2⟩, ⟨%d3, %f3, -, H3⟩, Hk⟩
  obtain rfl := h0.eq_unread hf0; obtain rfl := h1.eq_unread hf1
  sl_exec (disch := first | sl_exact hc1 | sl_exact hc2 | sl_exact hc3 | sl_exact hc4)
  sl_step
  iapply Hk
  have hX : body_first.sl.r c a0 h0 X = X := load_whole h0 X zeros _
  have hT : body_first.sl.r_1 c a1 h1 T = k0_pay6 T := congrArg k0_pay6 (load_whole h1 T zeros _)
  isplitl [H0]
  · iexists _; isplitr; · ipureintro; exact h0.read_unread _
    iexact H0
  isplitl [H1]
  · iexists _; isplitr; · ipureintro; exact h1.read_unread _
    iexact H1
  isplitl [H2]
  · iexists _; isplitr
    swap; · iexact H2
    ipureintro
    refine (store_whole f2 zeros _ _).trans ?_
    show k0_pay2 (body_first.sl.r c a0 h0 X) (rowsRun i (body_first.sl.r c a0 h0 X)) = _
    rw [hX]; exact pay2_eq i X
  iexists _; isplitr
  swap; · iexact H3
  ipureintro
  refine (store_whole f3 zeros _ _).trans ?_
  have hV : View.readAt (Elt F) a1.view (Rect.unit (s := S1024x1) ![0, 0] S1024x1.size inb_S1024x1_S1024x1_0_0).toLoadRect (h1.unread T) = T := load_whole h1 T zeros _
  show k0_pay3 (BitVec.ofNat 32 (i 1).val) (body_first.sl.r c a0 h0 X) (k0_pay6 (View.readAt (Elt F) a1.view (Rect.unit (s := S1024x1) ![0, 0] S1024x1.size inb_S1024x1_S1024x1_0_0).toLoadRect (h1.unread T)))
    (chunkRun i (body_first.sl.r c a0 h0 X) (View.readAt (Elt F) a1.view (Rect.unit (s := S1024x1) ![0, 0] S1024x1.size inb_S1024x1_S1024x1_0_0).toLoadRect (h1.unread T)))
    (k0_pay81 (body_first.sl.r c a0 h0 X)) (Scalar.muli (BitVec.ofNat 32 (i 1).val) 50#32) 48#32 = _
  rw [hX, hV]; exact pay3_eq i X T

set_option maxHeartbeats 1000000 in
/-- At a later one it adds them to what the two output buffers held. -/
theorem body_later (hc1 : ¬k0_cond1 i = 1#1) (hc2 : k0_cond2 i = 1#1) (hc3 : ¬k0_cond3 i = 1#1) (hc4 : k0_cond4 i = 1#1)
    (R C : Vec F S1024x128 .f32) (E : Set ℕ) (Q : PUnit → sProp 𝕄) :
    iprop(owns (c : Thread nD τ) a0 fullShare X ∗ owns (c : Thread nD τ) a1 fullShare T
        ∗ owns (c : Thread nD τ) a2 fullShare R ∗ owns (c : Thread nD τ) a3 fullShare C
        ∗ (iprop(owns (c : Thread nD τ) a0 fullShare X ∗ owns (c : Thread nD τ) a1 fullShare T
            ∗ owns (c : Thread nD τ) a2 fullShare (addf R (rowsPart i X)) ∗ owns (c : Thread nD τ) a3 fullShare (addf C (chunkPart i X T))) -∗ Q ⟨⟩))
      ⊢ wp frame (wpE (defs₀ (F := F)) 𝒱₀ c none) E (cc0__s1_body i a0 h0 a1 h1 a2 h2 a3 h3) Q := by
  simp only [cc0__s1_body_eq_skeleton]; unfold cc0__s1_body_skel
  simp only [k0_part1_eq_skeleton, k0_part2_eq_skeleton, k0_part3_eq_skeleton, k0_part4_eq_skeleton, k0_part5_eq_skeleton,
    k0_part6_eq_skeleton, k0_part7_eq_skeleton, k0_part8_eq_skeleton, k0_part9_eq_skeleton, k0_part10_eq_skeleton, k0_part11_eq_skeleton]
  unfold owns
  iintro ⟨⟨%f0, %hf0, H0⟩, ⟨%f1, %hf1, H1⟩, ⟨%f2, %hf2, H2⟩, ⟨%f3, %hf3, H3⟩, Hk⟩
  obtain rfl := h0.eq_unread hf0; obtain rfl := h1.eq_unread hf1
  obtain rfl := h2.eq_unread hf2; obtain rfl := h3.eq_unread hf3
  sl_exec (disch := first | sl_exact hc1 | sl_exact hc2 | sl_exact hc3 | sl_exact hc4)
  sl_step
  iapply Hk
  have hX : body_later.sl.r c a0 h0 X = X := load_whole h0 X zeros _
  isplitl [H0]
  · iexists _; isplitr; · ipureintro; exact h0.read_unread _
    iexact H0
  isplitl [H1]
  · iexists _; isplitr; · ipureintro; exact h1.read_unread _
    iexact H1
  isplitl [H2]
  · iexists _; isplitr
    swap; · iexact H2
    ipureintro
    refine (store_whole _ zeros _ _).trans ?_
    have hR : View.readAt (Elt F) a2.view (Rect.unit (s := S1024x128) ![0, 0] S1024x128.size inb_S1024x128_S1024x128_0_0).toLoadRect (h2.unread R) = R :=
      load_whole h2 R zeros _
    show k0_pay4 (body_later.sl.r c a0 h0 X) (rowsRun i (body_later.sl.r c a0 h0 X))
      (View.readAt (Elt F) a2.view (Rect.unit (s := S1024x128) ![0, 0] S1024x128.size inb_S1024x128_S1024x128_0_0).toLoadRect (h2.unread R)) = _
    rw [hX, hR, ← pay2_eq]; unfold k0_pay4; rw [shapeCast_self]
  iexists _; isplitr
  swap; · iexact H3
  ipureintro
  refine (store_whole _ zeros _ _).trans ?_
  have hV : View.readAt (Elt F) a1.view (Rect.unit (s := S1024x1) ![0, 0] S1024x1.size inb_S1024x1_S1024x1_0_0).toLoadRect (h1.unread T) = T := load_whole h1 T zeros _
  have hC : View.readAt (Elt F) a3.view (Rect.unit (s := S1024x128) ![0, 0] S1024x128.size inb_S1024x128_S1024x128_0_0).toLoadRect (h3.unread C) = C :=
    load_whole h3 C zeros _
  show k0_pay5 (BitVec.ofNat 32 (i 1).val) (body_later.sl.r c a0 h0 X) (k0_pay6 (View.readAt (Elt F) a1.view (Rect.unit (s := S1024x1) ![0, 0] S1024x1.size inb_S1024x1_S1024x1_0_0).toLoadRect (h1.unread T)))
    (chunkRun i (body_later.sl.r c a0 h0 X) (View.readAt (Elt F) a1.view (Rect.unit (s := S1024x1) ![0, 0] S1024x1.size inb_S1024x1_S1024x1_0_0).toLoadRect (h1.unread T)))
    (k0_pay81 (body_later.sl.r c a0 h0 X)) (Scalar.muli (BitVec.ofNat 32 (i 1).val) 50#32) 48#32
    (View.readAt (Elt F) a3.view (Rect.unit (s := S1024x128) ![0, 0] S1024x128.size inb_S1024x128_S1024x128_0_0).toLoadRect (h3.unread C)) = _
  rw [hX, hV, hC, ← pay3_eq]; unfold k0_pay5; rw [shapeCast_self]

end Body

end Cert.Proof.Smooth

end
-- ==== Proof.Region.lean ====
/-
  Entering and leaving a TensorCore call of this program: over the thread state "every unscoped buffer at `V`, the
  rest of the launch's bookkeeping beside, the core owing what the SparseCore launch has it owe".
-/
module

public import proofs.«01_k».proof.Proof.Setup
public import Idealize.ShloMosaic.Lib.Pipeline.Regions
public import Idealize.ShloMosaic.Lib.Pipeline.Value
public import Idealize.ShloMosaic.Lib.Pipeline.FrameTail

@[expose] public section

noncomputable section

namespace Cert.Proof.Smooth

open Cert.KernelIdeal Cert.KernelIdeal.Gen

open Idealize.ShloMosaic
open Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig (HIx 1) (Elt F) ℕ UU ℕ

/-- No pipeline has a prefetched table. -/
abbrev adm : (p : Fin 2) → (pcfgs (F := F) p).Adm := fun p => (cfgs p).toPCfg_adm

/-- What the TensorCore of `c` owes before SparseCore call `n`, its waits so far below that call's levels. -/
abbrev owing (c : Dev nD) (n : ℕ) : sProp 𝕄 := iprop(∃ W, ⌜(K (F := F)).WBelow (T c) W (8 * n)⌝ ∗ owes (T c) ((K (F := F)).Otc c n) W)

/-- The waits the launch lets the TensorCore have recorded before SparseCore call `n`. -/
abbrev below (c : Dev nD) (n : ℕ) : Set (SemLoc sig × HIx 1) := {p | (K (F := F)).lev (T c, p.1) p.2 ≤ 8 * n}

/-- It owes nothing at the index the pipelines wait at. -/
theorem otc_none (c : Dev nD) (n : ℕ) (g : GSem nD τ sig) : (K (F := F)).Otc c n g none = 0 := by
  by_contra h
  have h1 := SparseCore.Cfg.lev_of_Otc_pos (K := K (F := F)) (N := 1) (Nat.pos_of_ne_zero h)
  exact Nat.not_succ_le_zero _ h1

/-- The proof data of one entry, for either call. -/
abbrev Dats : Type := (p : Fin 2) → (c : Dev nD) → Dat τ (Elt F) (HIx 1) ℕ UU ℕ (Pipeline.pin (pcfgs (F := F)) adm p) c

/-- The TensorCore's unscoped buffers at a valuation. -/
abbrev heldAt (c : Dev nD) (V : Valuation τ sig (Elt F)) : sProp 𝕄 := StableHlo.held (c : Thread nD τ) (Pipeline.ucRefs τ sig) V

set_option backward.isDefEq.respectTransparency.types false in
/-- A TensorCore call entered with the unscoped buffers at `V` and left with them at `V` changed at the call's arrays,
    between SparseCore calls `n - 1` and `n`. -/
def region (pd : Dats (F := F)) (p : Fin 2) (n : ℕ) (V : Dev nD → Valuation τ sig (Elt F))
    (launch : Pipeline.LaunchFacts (nD := nD) (τ := τ) cfgs p)
    (hbody : ∀ c, BodyObligation (pd p c) (defs₀ (F := F)) 𝒱₀ none Set.univ)
    (hΦ : ∀ c t, (pd p c).Φ t = Pipeline.scopedRest (cfgs p).spec c)
    (howed : ∀ c t, (pd p c).owed t = (K (F := F)).Otc c n) (hrec : ∀ c t, (pd p c).recorded t = below (F := F) c n)
    (hq : ∀ c w, (pd p c).q w = fullShare)
    (hA : ∀ c w, (pd p c).A w = V c (Proc.devRef .tc (Pipeline.arrRef (cfgs p).spec w))) :
    Pipeline.RegionSeg (pcfgs (F := F)) adm pd none defs₀ 𝒱₀ (K (F := F)).L (K (F := F)).lev p where
  win := (launch.toP (Val := Elt F)).win.to₀
  block_pos := (launch.toP (Val := Elt F)).block_pos
  stage_whole := (launch.toP (Val := Elt F)).stage_whole
  K := PEmpty
  osem k := k.elim
  ho := Pipeline.OwnSemFacts.none _
  hbody c := (hbody c).loose
  hwaits c := Pipeline.cellsWaits_intro _ _ _ _ _ fun w s t => by
    rw [howed]; exact (K (F := F)).mayWait_none _ (otc_none c n)
  pre c := iprop(heldAt c (V c) ∗ owing c n)
  post c := iprop(heldAt c (Pipeline.afterRegion (pd p c) (V c)) ∗ owing c n)
  X _ := BI.emp
  Y _ := BI.emp
  Z c := Pipeline.unscopedRest (Ix := HIx 1) (Name := ℕ) (U := UU) (Lvl := ℕ) (cfgs p).spec c (fun b => V c (Proc.devRef .tc b))
  hentry c := by
    rw [Pipeline.ownSems0_none,
      show heldAt c (V c) = unscopedBufs c (fun b => V c (Proc.devRef .tc b)) from (Pipeline.unscopedBufs_held c (V c)).symm]
    have hsplit := Pipeline.arrays_of_unscopedBufs (p := p) (pcfgs (F := F)) adm pd (launch.toP (Val := Elt F)).win (launch.toP (Val := Elt F)).arr_whole c
      ((pd p c).share_full (hq c)) (fun b => V c (Proc.devRef .tc b)) (hA c)
    iintro ⟨⟨Hub, ⟨%W, %hW, HO⟩⟩, -, -⟩
    ihave H := hsplit $$ Hub
    icases H with ⟨Ha, Hrest⟩
    imodintro
    isplitl [Ha]; · iexact Ha
    isplitr
    · unfold Pipeline.prefHeld
      iapply (show (BI.emp : sProp 𝕄) ⊢ bigSep (Finset.univ : Finset (Fin 0)) _ from by
        rw [show (Finset.univ : Finset (Fin 0)) = ∅ from rfl, BI.bigSep_empty])
      iempintro
    isplitl [HO]
    · unfold Pipeline.Dat.owesAt Pipeline.owesWithin
      rw [howed c 0]
      iexists W; isplitr
      · ipureintro; intro x hx; refine Or.inl ?_; rw [hrec]; exact hW x hx
      iexact HO
    isplitr; · iempintro
    iexact Hrest
  hin c := by
    rw [hΦ]; iintro ⟨-, -, Hr⟩; iexact Hr
  hout c := by
    rw [Pipeline.ownSems0_none, hΦ]
    iintro Hr
    isplitr; · iempintro
    isplitr; · iempintro
    iexact Hr
  hexit c := by
    have hjoin := Pipeline.unscopedBufs_of_arrays (p := p) (pcfgs (F := F)) adm (Ix := HIx 1) (Name := ℕ) (U := UU) (Lvl := ℕ)
      (launch.toP (Val := Elt F)).win (launch.toP (Val := Elt F)).arr_whole c pd ((pd p c).share_full (hq c))
      (fun b => V c (Proc.devRef .tc b)) (fun b => Pipeline.afterRegion (pd p c) (V c) (Proc.devRef .tc b)) ((pd p c).arrAt · (cfgs p).N)
      (fun w => (Pipeline.afterRegion_arr (pd p c) (V c) launch.win.arr_inj w).symm)
      (fun b hb => Pipeline.afterRegion_of_not_arr (pd p c) (V c)
        fun w h => hb (h ▸ Finset.mem_image.mpr ⟨w, Finset.mem_univ _, rfl⟩))
    rw [show heldAt c (Pipeline.afterRegion (pd p c) (V c)) = unscopedBufs c (fun b => Pipeline.afterRegion (pd p c) (V c) (Proc.devRef .tc b))
      from (Pipeline.unscopedBufs_held c _).symm]
    iintro ⟨Ha, HO, -, Hrest⟩
    imodintro
    isplitl [Ha Hrest]
    · iapply hjoin; isplitl [Ha] <;> iassumption
    unfold Pipeline.Dat.owesAt Pipeline.owesWithin
    rw [howed c (Fin.last _)]
    icases HO with ⟨%W, %hW, HO⟩; iexists W
    isplitr
    · ipureintro; intro x hx
      rcases hW hx with h | ⟨w, s, h⟩
      · rw [hrec] at h; exact h
      · obtain rfl := h; exact Nat.zero_le _
    iexact HO

end Cert.Proof.Smooth
-- ==== Proof.FirstCall.lean ====
/-
  The first call, all its grid points: what its two output buffers hold after each point, the pipeline's proof data
  over them and the body at every point.
-/
module

public import proofs.«01_k».proof.Proof.First
public import proofs.«01_k».proof.Proof.Region

@[expose] public section

set_option maxRecDepth 16384

noncomputable section

namespace Cert.Proof.Smooth

open Cert.KernelIdeal Cert.KernelIdeal.Gen

open Idealize.ShloMosaic
open Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig (HIx 1) (Elt F) ℕ UU ℕ

variable (V : Dev nD → Valuation τ sig (Elt F))

/-- Window `w`'s array as the call finds it, read at the block of point `t`. -/
abbrev blockAt (c : Dev nD) (w : Fin cfg0.W) (t : Fin cfg0.N) : ((cfg0.win w).xblock (cfg0.grid.coords t)).Idx → Elt F (cfg0.win w).elt :=
  ((cfg0.win w).blk t).view.read (Elt F) (V c (Proc.devRef .tc (Pipeline.arrRef spec0 w)))

/-- The two sums of point `t` alone. -/
abbrev partsAt (c : Dev nD) (t : Fin cfg0.N) : Vec F S1024x128 .f32 × Vec F S1024x128 .f32 :=
  (rowsPart (grid0.coords t) (blockAt V c 0 t), chunkPart (grid0.coords t) (blockAt V c 0 t) (blockAt V c 1 t))

/-- What the output buffers hold after point `n`: its sums, added to those of the points before it on the same rows. -/
def sumsAt (c : Dev nD) : (n : ℕ) → n < cfg0.N → Vec F S1024x128 .f32 × Vec F S1024x128 .f32
  | 0, h => partsAt V c ⟨0, h⟩
  | n + 1, h => if (n + 1) % 5 = 0 then partsAt V c ⟨n + 1, h⟩
      else (addf (sumsAt c n (Nat.lt_of_succ_lt h)).1 (partsAt V c ⟨n + 1, h⟩).1, addf (sumsAt c n (Nat.lt_of_succ_lt h)).2 (partsAt V c ⟨n + 1, h⟩).2)

/-- At the first block of columns, that point's sums; -/
theorem sumsAt_first (c : Dev nD) (t : Fin cfg0.N) (h : t.val % 5 = 0) : sumsAt V c t.val t.isLt = partsAt V c t := by
  obtain ⟨n, hn⟩ := t
  cases n with
  | zero => rfl
  | succ n => exact if_pos h

/-- at a later one, added to the point before's. -/
theorem sumsAt_later (c : Dev nD) (t : Fin cfg0.N) (h : ¬t.val % 5 = 0) :
    sumsAt V c t.val t.isLt = (addf (sumsAt V c (t.val - 1) (Nat.lt_of_le_of_lt (Nat.sub_le _ _) t.isLt)).1 (partsAt V c t).1,
      addf (sumsAt V c (t.val - 1) (Nat.lt_of_le_of_lt (Nat.sub_le _ _) t.isLt)).2 (partsAt V c t).2) := by
  obtain ⟨n, hn⟩ := t
  cases n with
  | zero => exact absurd (Nat.zero_mod 5) h
  | succ n => exact if_neg h

/-- The first call's proof data, entered at `V`. -/
def dat0 (c : Dev nD) : Dat τ (Elt F) (HIx 1) ℕ UU ℕ cfg0 c where
  A w := V c (Proc.devRef .tc (Pipeline.arrRef spec0 w))
  after w t := match w with
    | ⟨0, _⟩ => blockAt V c 0 t
    | ⟨1, _⟩ => blockAt V c 1 t
    | ⟨2, _⟩ => (sumsAt V c t.val t.isLt).1
    | ⟨3, _⟩ => (sumsAt V c t.val t.isLt).2
  Φ _ := Pipeline.scopedRest spec0 c
  q _ := fullShare
  owed _ := (K (F := F)).Otc c 0
  recorded _ := below (F := F) c 0

/-- The arrays are as the call finds them. -/
theorem dat0_A (c : Dev nD) (w : Fin cfg0.W) : (dat0 V c).A w = V c (Proc.devRef .tc (Pipeline.arrRef spec0 w)) := by dsimp only [dat0]

/-- After a grid point the logits' buffer still holds its block, -/
theorem after0_0 (c : Dev nD) (t : Fin cfg0.N) : (dat0 V c).after 0 t = blockAt V c 0 t := by dsimp only [dat0]
/-- the targets' buffer its own, -/
theorem after0_1 (c : Dev nD) (t : Fin cfg0.N) : (dat0 V c).after 1 t = blockAt V c 1 t := by dsimp only [dat0]
/-- the first output's buffer the sums so far, -/
theorem after0_2 (c : Dev nD) (t : Fin cfg0.N) : (dat0 V c).after 2 t = (sumsAt V c t.val t.isLt).1 := by dsimp only [dat0]
/-- and the second output's the picked slabs so far. -/
theorem after0_3 (c : Dev nD) (t : Fin cfg0.N) : (dat0 V c).after 3 t = (sumsAt V c t.val t.isLt).2 := by dsimp only [dat0]

/-- The input buffers hold their blocks when the body runs. -/
theorem before0_0 (c : Dev nD) (t : Fin cfg0.N) (d) : (dat0 V c).before 0 t d = blockAt V c 0 t :=
  ((dat0 V c).before_in_eq_fetched 0 rfl (fun _ => rfl) (fun _ _ _ => rfl)
    (fun t => by rw [after0_0]; unfold Dat.blockOf; rw [dat0_A]) t d).trans (by unfold Dat.fetched Dat.blockOf; rw [dat0_A]; try rfl)
/-- The same of the targets' block. -/
theorem before0_1 (c : Dev nD) (t : Fin cfg0.N) (d) : (dat0 V c).before 1 t d = blockAt V c 1 t :=
  ((dat0 V c).before_in_eq_fetched 1 rfl (fun _ => rfl) (fun _ _ _ => rfl)
    (fun t => by rw [after0_1]; unfold Dat.blockOf; rw [dat0_A]) t d).trans (by unfold Dat.fetched Dat.blockOf; rw [dat0_A]; try rfl)

/-- No window is left alone at any point: every point stores both outputs. -/
theorem live0 : ∀ (w : Fin cfg0.W) (t : Fin cfg0.N), cfg0.idle w (grid0.coords t) = false := by decide +kernel

/-- Whether an output's buffer is fresh before point `n`: at 0, 5, 10, 15, 20. -/
def freshTab : ℕ → Bool
  | 0 => true
  | n + 1 => (0x84210 : ℕ).testBit n

/-- The first output's buffer is fresh at just those points, -/
theorem fresh0_2 (t : Fin cfg0.N) : cfg0.fresh 2 t.val = freshTab t.val :=
  Pipeline.Cfg.fresh_tab cfg0 2 freshTab rfl
    (show ∀ t : Fin cfg0.N, freshTab (t.val + 1) = ((cfg0.win 2).flush t || (cfg0.idle 2 (cfg0.grid.coords t) && freshTab t.val)) by decide +kernel)
    t.val (Nat.le_of_lt t.isLt)
/-- and so is the second's. -/
theorem fresh0_3 (t : Fin cfg0.N) : cfg0.fresh 3 t.val = freshTab t.val :=
  Pipeline.Cfg.fresh_tab cfg0 3 freshTab rfl
    (show ∀ t : Fin cfg0.N, freshTab (t.val + 1) = ((cfg0.win 3).flush t || (cfg0.idle 3 (cfg0.grid.coords t) && freshTab t.val)) by decide +kernel)
    t.val (Nat.le_of_lt t.isLt)
/-- At a later block of columns it is not. -/
theorem not_fresh : ∀ t : Fin cfg0.N, ¬t.val % 5 = 0 → freshTab t.val = false := by decide +kernel

/-- There each output's buffer still holds what the point before left. -/
theorem before0_2 (c : Dev nD) (t : Fin cfg0.N) (h : ¬t.val % 5 = 0) (d) :
    (dat0 V c).before 2 t d = (sumsAt V c (t.val - 1) (Nat.lt_of_le_of_lt (Nat.sub_le _ _) t.isLt)).1 := by
  rw [Dat.before_out_traj _ 2 rfl (fun _ _ => rfl) (fun t _ hi _ => absurd ((live0 2 t).symm.trans hi) Bool.false_ne_true) t.val t rfl d,
    if_neg (by rw [fresh0_2, not_fresh t h]; exact Bool.false_ne_true)]
  dsimp only [dat0]
/-- The same of the second output. -/
theorem before0_3 (c : Dev nD) (t : Fin cfg0.N) (h : ¬t.val % 5 = 0) (d) :
    (dat0 V c).before 3 t d = (sumsAt V c (t.val - 1) (Nat.lt_of_le_of_lt (Nat.sub_le _ _) t.isLt)).2 := by
  rw [Dat.before_out_traj _ 3 rfl (fun _ _ => rfl) (fun t _ hi _ => absurd ((live0 3 t).symm.trans hi) Bool.false_ne_true) t.val t rfl d,
    if_neg (by rw [fresh0_3, not_fresh t h]; exact Bool.false_ne_true)]
  dsimp only [dat0]

/-- Every point leaves each buffer as the proof data says. -/
theorem leaves0 (c : Dev nD) (w : Fin cfg0.W) (t : Fin cfg0.N) :
    (dat0 V c).leavesExact w t = owns (c : Thread nD τ) ((cfg0.win w).stage (cfg0.slots t w)) fullShare ((dat0 V c).after w t) := by
  unfold Dat.leavesExact; rw [live0 w t]

set_option maxHeartbeats 800000 in
/-- The body at point `t`. -/
theorem sound0 (c : Dev nD) (t : Fin cfg0.N) :
    iprop((dat0 V c).Φ t.castSucc ∗ (dat0 V c).owesAt none t.castSucc
        ∗ (∃ d, owns (c : Thread nD τ) ((cfg0.win 0).stage (cfg0.slots t 0)) fullShare ((dat0 V c).before 0 t d))
        ∗ (∃ d, owns (c : Thread nD τ) ((cfg0.win 1).stage (cfg0.slots t 1)) fullShare ((dat0 V c).before 1 t d))
        ∗ (∃ d, owns (c : Thread nD τ) ((cfg0.win 2).stage (cfg0.slots t 2)) fullShare ((dat0 V c).before 2 t d))
        ∗ (∃ d, owns (c : Thread nD τ) ((cfg0.win 3).stage (cfg0.slots t 3)) fullShare ((dat0 V c).before 3 t d)))
      ⊢ wp frame (wpE (defs₀ (F := F)) 𝒱₀ c none) Set.univ (bodyAt0 t) fun _ =>
        iprop((dat0 V c).Φ t.succ ∗ (dat0 V c).owesAt none t.succ
          ∗ (dat0 V c).leavesExact 0 t ∗ (dat0 V c).leavesExact 1 t ∗ (dat0 V c).leavesExact 2 t ∗ (dat0 V c).leavesExact 3 t) := by
  unfold bodyAt0
  simp only [before0_0, before0_1, leaves0, after0_0, after0_1, after0_2, after0_3]
  rw [show (dat0 V c).Φ t.succ = (dat0 V c).Φ t.castSucc from rfl, show (dat0 V c).owesAt none t.succ = (dat0 V c).owesAt none t.castSucc from rfl]
  obtain ⟨h1, h3⟩ := first_iff t
  obtain ⟨h2, h4⟩ := later_iff t
  by_cases h : t.val % 5 = 0
  · rw [sumsAt_first V c t h]
    iintro ⟨HΦ, Ho, ⟨%d0, H0⟩, ⟨%d1, H1⟩, ⟨%d2, H2⟩, ⟨%d3, H3⟩⟩
    iapply (body_first c (grid0.coords t) _ _ _ _ _ _ _ _ (blockAt V c 0 t) (blockAt V c 1 t) (h1.mpr h) (fun k => h2.mp k h) (h3.mpr h) (fun k => h4.mp k h) Set.univ _)
    isplitl [H0]; · iexact H0
    isplitl [H1]; · iexact H1
    isplitl [H2]; · iexists _; iexact H2
    isplitl [H3]; · iexists _; iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3
  · simp only [before0_2 V c t h, before0_3 V c t h]
    rw [sumsAt_later V c t h]
    iintro ⟨HΦ, Ho, ⟨%d0, H0⟩, ⟨%d1, H1⟩, ⟨%d2, H2⟩, ⟨%d3, H3⟩⟩
    iapply (body_later c (grid0.coords t) _ _ _ _ _ _ _ _ (blockAt V c 0 t) (blockAt V c 1 t) (fun k => h (h1.mp k)) (h2.mpr h) (fun k => h (h3.mp k)) (h4.mpr h) _ _ Set.univ _)
    isplitl [H0]; · iexact H0
    isplitl [H1]; · iexact H1
    isplitl [H2]; · iexact H2
    isplitl [H3]; · iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3

/-- The first call's label runs its body. -/
theorem defs₀_first (t : Fin cfg0.N) : defs₀ (F := F) .tc cfg0.body (cfg0.bodyArgs t (cfg0.slots t)) = bodyAt0 t := by
  unfold defs₀; rfl

/-- The library's obligation at every point. -/
theorem obligation0 (c : Dev nD) : BodyObligation (dat0 V c) (defs₀ (F := F)) 𝒱₀ none Set.univ := fun t => by
  rw [bigSep_W0, bigSep_W0, defs₀_first]
  exact sound0 V c t

end Cert.Proof.Smooth
-- ==== Proof.LastCall.lean ====
/-
  The last call: it adds up what the first two left and the constants into the one result. One grid point; its
  output is one word of scalar memory.
-/
module

public import proofs.«01_k».proof.Proof.First
public import proofs.«01_k».proof.Proof.Region

@[expose] public section

set_option maxRecDepth 16384

noncomputable section

namespace Cert.Proof.Smooth

open Cert.KernelIdeal Cert.KernelIdeal.Gen

open Idealize.ShloMosaic
open Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig (HIx 1) (Elt F) ℕ UU ℕ

section Body

variable (c : Dev nD)
  (a0 : Memref sig .tc .vmem S4096x128 .f32) (h0 : a0.IsWhole) (a1 : Memref sig .tc .vmem S4096x1 .i32) (h1 : a1.IsWhole)
  (a2 : Memref sig .tc .vmem S32x128 .i32) (h2 : a2.IsWhole) (a3 : Memref sig .tc .vmem S32x128 .f32) (h3 : a3.IsWhole)
  (a4 : Memref sig .tc .smem S1x1 .f32) (h4 : a4.IsWhole)
  (R : Vec F S4096x128 .f32) (T : Vec F S4096x1 .i32) (T' : Vec F S32x128 .i32) (G : Vec F S32x128 .f32)

/-- The body leaves the combined value in its output word. -/
theorem body_combine (E : Set ℕ) (Q : PUnit → sProp 𝕄) :
    iprop(owns (c : Thread nD τ) a0 fullShare R ∗ owns (c : Thread nD τ) a1 fullShare T
        ∗ owns (c : Thread nD τ) a2 fullShare T' ∗ owns (c : Thread nD τ) a3 fullShare G ∗ (∃ d, owns (c : Thread nD τ) a4 fullShare d)
        ∗ (iprop(owns (c : Thread nD τ) a0 fullShare R ∗ owns (c : Thread nD τ) a1 fullShare T
            ∗ owns (c : Thread nD τ) a2 fullShare T' ∗ owns (c : Thread nD τ) a3 fullShare G
            ∗ owns (c : Thread nD τ) a4 fullShare (fun _ => k2_pay1 T' T R G)) -∗ Q ⟨⟩))
      ⊢ wp frame (wpE (defs₀ (F := F)) 𝒱₀ c none) E (cc2__combine_body a0 h0 a1 h1 a2 h2 a3 h3 a4 h4) Q := by
  simp only [cc2__combine_body_eq_skeleton]; unfold cc2__combine_body_skel
  simp only [k2_part1_eq_skeleton]
  unfold owns
  iintro ⟨⟨%f0, %hf0, H0⟩, ⟨%f1, %hf1, H1⟩, ⟨%f2, %hf2, H2⟩, ⟨%f3, %hf3, H3⟩, ⟨%d4, %f4, -, H4⟩, Hk⟩
  obtain rfl := h0.eq_unread hf0; obtain rfl := h1.eq_unread hf1
  obtain rfl := h2.eq_unread hf2; obtain rfl := h3.eq_unread hf3
  sl_exec
  sl_step
  iapply Hk
  isplitl [H0]
  · iexists _; isplitr; · ipureintro; exact h0.read_unread _
    iexact H0
  isplitl [H1]
  · iexists _; isplitr; · ipureintro; exact h1.read_unread _
    iexact H1
  isplitl [H2]
  · iexists _; isplitr; · ipureintro; exact h2.read_unread _
    iexact H2
  isplitl [H3]
  · iexists _; isplitr; · ipureintro; exact h3.read_unread _
    iexact H3
  iexists _; isplitr
  swap; · iexact H4
  ipureintro
  refine (store_whole f4 zeros _ _).trans (funext fun _ => ?_)
  show k2_pay1 (View.readAt (Elt F) a2.view (Rect.unit (s := S32x128) ![0, 0] S32x128.size inb_S32x128_S32x128_0_0).toLoadRect (h2.unread T'))
    (View.readAt (Elt F) a1.view (Rect.unit (s := S4096x1) ![0, 0] S4096x1.size inb_S4096x1_S4096x1_0_0).toLoadRect (h1.unread T))
    (View.readAt (Elt F) a0.view (Rect.unit (s := S4096x128) ![0, 0] S4096x128.size inb_S4096x128_S4096x128_0_0).toLoadRect (h0.unread R))
    (View.readAt (Elt F) a3.view (Rect.unit (s := S32x128) ![0, 0] S32x128.size inb_S32x128_S32x128_0_0).toLoadRect (h3.unread G)) = _
  rw [load_whole h0 R zeros, load_whole h1 T zeros, load_whole h2 T' zeros, load_whole h3 G zeros]

end Body

variable (V : Dev nD → Valuation τ sig (Elt F))

/-- Window `w`'s array as the call finds it, read whole. -/
abbrev wholeAt (c : Dev nD) (w : Fin cfg2.W) : ((cfg2.win w).xblock (cfg2.grid.coords t2_0)).Idx → Elt F (cfg2.win w).elt :=
  ((cfg2.win w).blk t2_0).view.read (Elt F) (V c (Proc.devRef .tc (Pipeline.arrRef spec2 w)))

/-- The last call's proof data, entered at `V`. -/
def dat2 (c : Dev nD) : Dat τ (Elt F) (HIx 1) ℕ UU ℕ cfg2 c where
  A w := V c (Proc.devRef .tc (Pipeline.arrRef spec2 w))
  after w _ := match w with
    | ⟨0, _⟩ => wholeAt V c 0
    | ⟨1, _⟩ => wholeAt V c 1
    | ⟨2, _⟩ => wholeAt V c 2
    | ⟨3, _⟩ => wholeAt V c 3
    | ⟨4, _⟩ => fun _ => k2_pay1 (wholeAt V c 2) (wholeAt V c 1) (wholeAt V c 0) (wholeAt V c 3)
  Φ _ := Pipeline.scopedRest spec2 c
  q _ := fullShare
  owed _ := (K (F := F)).Otc c 1
  recorded _ := below (F := F) c 1

/-- Each input's buffer holds its array when the body runs. -/
theorem before2_0 (c : Dev nD) (d) : (dat2 V c).before 0 t2_0 d = wholeAt V c 0 := by unfold Dat.before; rw [if_pos (by decide)]; rfl
/-- The same of the targets as a column, -/
theorem before2_1 (c : Dev nD) (d) : (dat2 V c).before 1 t2_0 d = wholeAt V c 1 := by unfold Dat.before; rw [if_pos (by decide)]; rfl
/-- of the targets in rows of 128, -/
theorem before2_2 (c : Dev nD) (d) : (dat2 V c).before 2 t2_0 d = wholeAt V c 2 := by unfold Dat.before; rw [if_pos (by decide)]; rfl
/-- and of the gathered elements. -/
theorem before2_3 (c : Dev nD) (d) : (dat2 V c).before 3 t2_0 d = wholeAt V c 3 := by unfold Dat.before; rw [if_pos (by decide)]; rfl

/-- The last call's label runs its body. -/
theorem defs₀_last (t : Fin cfg2.N) : defs₀ (F := F) .tc cfg2.body (cfg2.bodyArgs t (cfg2.slots t)) = bodyAt2 t := by
  unfold defs₀; rfl

/-- The library's obligation at its one point. -/
theorem obligation2 (c : Dev nD) : BodyObligation (dat2 V c) (defs₀ (F := F)) 𝒱₀ none Set.univ := fun t => by
  obtain rfl := fin_N2 t
  rw [bigSep_W2, bigSep_W2, defs₀_last]
  unfold bodyAt2
  simp only [before2_0, before2_1, before2_2, before2_3]
  rw [show (dat2 V c).Φ t2_0.succ = (dat2 V c).Φ t2_0.castSucc from rfl, show (dat2 V c).owesAt none t2_0.succ = (dat2 V c).owesAt none t2_0.castSucc from rfl]
  iintro ⟨HΦ, Ho, ⟨%d0, H0⟩, ⟨%d1, H1⟩, ⟨%d2, H2⟩, ⟨%d3, H3⟩, ⟨%d4, H4⟩⟩
  iapply (body_combine c _ _ _ _ _ _ _ _ _ _ (wholeAt V c 0) (wholeAt V c 1) (wholeAt V c 2) (wholeAt V c 3) Set.univ _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

end Cert.Proof.Smooth
-- ==== Proof.Main.lean ====
/-
  The program's run: @main on the TensorCore — the first call, the SparseCore gather, the last call and the reshapes
  between them — with the contents of every array carried through, and the launch of all the threads around it.
-/
module

public import proofs.«01_k».proof.Proof.Tile
public import proofs.«01_k».proof.Proof.FirstCall
public import proofs.«01_k».proof.Proof.LastCall

@[expose] public section

set_option maxRecDepth 16384

noncomputable section

namespace Cert.Proof.Smooth

open Cert.KernelIdeal Cert.KernelIdeal.Gen

open Idealize.ShloMosaic
open Idealize.ShloMosaic.TcCoe Idealize.ShloMosaic.Tactic
open Idealize.ShloMosaic.StableHlo (held held_sub_split held_congr wp_hlo_within)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig (HIx 1) (Elt F) ℕ UU ℕ

variable (m : (ℓ : Loc nD τ sig) → Buf (Elt F) ℓ)

/-! ## The host operations and the contents between them -/

/-- A column of targets for the first call, -/
abbrev opColumn : HloOp τ sig (Elt F) := StableHlo.reshape main_arg1 main_v0 (rfl : (.i32 : EltTy) = .i32) shapeCasts_S4096_S4096x1
/-- the chunks as one flat table, -/
abbrev opFlat : HloOp τ sig (Elt F) := StableHlo.reshape main_v1_1 main_v2 (rfl : (.f32 : EltTy) = .f32) shapeCasts_S4096x128_S524288
/-- a column of targets for the last call, -/
abbrev opColumn' : HloOp τ sig (Elt F) := StableHlo.reshape main_arg1 main_v4 (rfl : (.i32 : EltTy) = .i32) shapeCasts_S4096_S4096x1
/-- the targets as a table, -/
abbrev opTable : HloOp τ sig (Elt F) := StableHlo.reshape main_arg1 main_v5 (rfl : (.i32 : EltTy) = .i32) shapeCasts_S4096_S32x128
/-- the gathered elements as a table, -/
abbrev opGather : HloOp τ sig (Elt F) := StableHlo.reshape main_v3 main_v6 (rfl : (.f32 : EltTy) = .f32) shapeCasts_S4096_S32x128
/-- and the result as a scalar. -/
abbrev opOut : HloOp τ sig (Elt F) := StableHlo.reshape main_v7 main_v8 (rfl : (.f32 : EltTy) = .f32) shapeCasts_S1x1_S_

/-- The contents at the launch, -/
def V0 (d : Dev nD) : Valuation τ sig (Elt F) := fun b => m (d, b)
/-- with the column of targets, -/
def V1 (d : Dev nD) : Valuation τ sig (Elt F) := (opColumn (F := F)).result (V0 m d)
/-- after the first call, -/
def V2 (d : Dev nD) : Valuation τ sig (Elt F) := Pipeline.afterRegion (dat0 (V1 m) d) (V1 m d)
/-- with the flat table, -/
def V3 (d : Dev nD) : Valuation τ sig (Elt F) := (opFlat (F := F)).result (V2 m d)
/-- the table itself, -/
def tab (d : Dev nD) : Buf (Elt F) (cLoc d) := V3 m d (Proc.devRef .tc main_v2)
/-- after the gather, -/
def V4 (d : Dev nD) : Valuation τ sig (Elt F) :=
  Function.update (V3 m d) (Proc.devRef .tc main_v3) (gathered (m (tLoc d)) (tab m d))
/-- with the last call's three operands, -/
def V5 (d : Dev nD) : Valuation τ sig (Elt F) := (opGather (F := F)).result ((opTable (F := F)).result ((opColumn' (F := F)).result (V4 m d)))
/-- after the last call, -/
def V6 (d : Dev nD) : Valuation τ sig (Elt F) := Pipeline.afterRegion (dat2 (V5 m) d) (V5 m d)
/-- and at the end. -/
def V7 (d : Dev nD) : Valuation τ sig (Elt F) := (opOut (F := F)).result (V6 m d)

/-! ## The arrays the SparseCore call takes -/

/-- The targets, the table and the gathered elements. -/
def taken : Finset (DevRef τ sig) := {Proc.devRef .tc main_arg1, Proc.devRef .tc main_v2, Proc.devRef .tc main_v3}

/-- They are arrays of the program. -/
theorem taken_sub : taken ⊆ Pipeline.ucRefs τ sig := by
  intro b hb
  simp only [taken, Finset.mem_insert, Finset.mem_singleton] at hb
  rcases hb with rfl | rfl | rfl <;> exact Pipeline.devRef_mem_ucRefs rfl

/-- Held one by one. -/
theorem held_taken (d : Dev nD) (W : Valuation τ sig (Elt F)) :
    (held (d : Thread nD τ) taken W : sProp 𝕄)
      = iprop((tLoc d ↦{fullShare} W (Proc.devRef .tc main_arg1)) ∗ (cLoc d ↦{fullShare} W (Proc.devRef .tc main_v2))
          ∗ (oLoc d ↦{fullShare} W (Proc.devRef .tc main_v3))) := by
  unfold held taken
  rw [SparseCore.bigSep_insert' (by decide), SparseCore.bigSep_insert' (by decide), bigSep_singleton]

/-- The first call leaves the targets alone, -/
theorem V3_targets (d : Dev nD) : V3 m d (Proc.devRef .tc main_arg1) = m (tLoc d) := by
  unfold V3 V2 V1
  rw [StableHlo.reshape_result_ne _ _ _ _ _ _ _ (by decide), Pipeline.afterRegion_of_not_arr _ _ (by decide),
    StableHlo.reshape_result_ne _ _ _ _ _ _ _ (by decide)]
  rfl
/-- and the array of gathered elements. -/
theorem V3_out (d : Dev nD) : V3 m d (Proc.devRef .tc main_v3) = m (oLoc d) := by
  unfold V3 V2 V1
  rw [StableHlo.reshape_result_ne _ _ _ _ _ _ _ (by decide), Pipeline.afterRegion_of_not_arr _ _ (by decide),
    StableHlo.reshape_result_ne _ _ _ _ _ _ _ (by decide)]
  rfl

/-- What the gather takes of the arrays, the rest beside, -/
theorem held_before (d : Dev nD) :
    (heldAt d (V3 m d) : sProp 𝕄)
      = iprop(((tLoc d ↦{fullShare} m (tLoc d)) ∗ (cLoc d ↦{fullShare} tab m d) ∗ (oLoc d ↦{fullShare} m (oLoc d)))
          ∗ held (d : Thread nD τ) (Pipeline.ucRefs τ sig \ taken) (V3 m d)) := by
  unfold heldAt
  rw [held_sub_split _ taken_sub, held_taken, V3_targets, V3_out]; rfl
/-- and what they are with its result. -/
theorem held_after (d : Dev nD) :
    (heldAt d (V4 m d) : sProp 𝕄)
      = iprop(((tLoc d ↦{fullShare} m (tLoc d)) ∗ (cLoc d ↦{fullShare} tab m d) ∗ (oLoc d ↦{fullShare} gathered (m (tLoc d)) (tab m d)))
          ∗ held (d : Thread nD τ) (Pipeline.ucRefs τ sig \ taken) (V3 m d)) := by
  unfold heldAt
  rw [held_sub_split _ taken_sub, held_taken,
    held_congr (S := Pipeline.ucRefs τ sig \ taken) (V := V4 m d) (V' := V3 m d) _ fun b hb => Function.update_of_ne (fun h => by
      subst h; exact (Finset.mem_sdiff.mp hb).2 (by decide)) _ _]
  unfold V4
  rw [Function.update_of_ne (by decide), Function.update_of_ne (by decide), Function.update_self, V3_targets]; rfl

/-! ## The two TensorCore calls -/

/-- The proof data of the two calls. -/
def dats : Dats (F := F) := fun p => match p with
  | 0 => dat0 (V1 m)
  | 1 => dat2 (V5 m)

variable [∀ e, Nonempty (Elt F e)]

/-- The ghost state of one call on one core. -/
abbrev ghost (p : Fin 2) (d : Dev nD) : sProp 𝕄 :=
  iprop(Pipeline.cellsGhost (Pipeline.pin (pcfgs (F := F)) adm) EP p d ∗ Pipeline.toksInit (Pipeline.pin (pcfgs (F := F)) adm) EP p d)

set_option backward.isDefEq.respectTransparency.types false in
/-- A TensorCore call of the launched program, by its record. -/
theorem enter (pd : Dats (F := F)) (p : Fin 2)
    (R : Pipeline.RegionSeg (pcfgs (F := F)) adm pd none defs₀ 𝒱₀ (K (F := F)).L (K (F := F)).lev p) (d : Dev nD) (Q : PUnit → sProp 𝕄) :
    iprop((iprop(boundary (SparseCore.T d : Thread nD τ) ∗ R.post d) -∗ Q ⟨⟩)
        ∗ boundary (SparseCore.T d : Thread nD τ) ∗ R.pre d ∗ levAts (K (F := F)).L (K (F := F)).lev ∗ ghost p d)
      ⊢ wp frame (wpE ((K (F := F)).defs (D (F := F))) 𝒱 (SparseCore.T d) none) Set.univ
          (Prog.lift (.customCall (SparseCore.inner (Pipeline.entry p)) ())) Q := by
  refine BIBase.Entails.trans ?_ ((K (F := F)).wp_liftProg (D (F := F)) 𝒱 (SparseCore.T d) Set.univ none
    (.op (.customCall (Pipeline.entry p) ()) .ret) Q)
  refine BIBase.Entails.trans ?_ (Pipeline.RegionSeg.wp (pcfgs (F := F)) adm pd none cellOf_inj EP defs₀ 𝒱₀ (K (F := F)).L (K (F := F)).lev R d none
    (fun u hu => nomatch hu) .ret Q)
  iintro ⟨Hk, Hb, Hp, Hl, Hg, Ht⟩
  isplitl [Hk]
  · iintro H
    rw [wp_ret]; imodintro
    iapply Hk; iexact H
  isplitl [Hb]; · iexact Hb
  isplitl [Hp]; · iexact Hp
  isplitl [Hl]; · iexact Hl
  isplitl [Hg] <;> iassumption

/-- The first call, -/
def region0 : Pipeline.RegionSeg (pcfgs (F := F)) adm (dats m) none defs₀ 𝒱₀ (K (F := F)).L (K (F := F)).lev 0 :=
  region (dats m) 0 0 (V1 m) launch0 (obligation0 (V1 m)) (fun _ _ => rfl) (fun _ _ => rfl) (fun _ _ => rfl) (fun _ _ => rfl) (fun _ _ => rfl)
/-- and the last. -/
def region1 : Pipeline.RegionSeg (pcfgs (F := F)) adm (dats m) none defs₀ 𝒱₀ (K (F := F)).L (K (F := F)).lev 1 :=
  region (dats m) 1 1 (V5 m) launch2 (obligation2 (V5 m)) (fun _ _ => rfl) (fun _ _ => rfl) (fun _ _ => rfl) (fun _ _ => rfl) (fun _ _ => rfl)

/-- The first call's run, -/
theorem first_call (d : Dev nD) (Q : PUnit → sProp 𝕄) :
    iprop((iprop(boundary (SparseCore.T d : Thread nD τ) ∗ heldAt d (V2 m d) ∗ owing d 0) -∗ Q ⟨⟩)
        ∗ boundary (SparseCore.T d : Thread nD τ) ∗ (heldAt d (V1 m d) ∗ owing d 0) ∗ levAts (K (F := F)).L (K (F := F)).lev ∗ ghost 0 d)
      ⊢ wp frame (wpE ((K (F := F)).defs (D (F := F))) 𝒱 (SparseCore.T d) none) Set.univ
          (Prog.lift (.customCall (SparseCore.inner (Pipeline.entry 0)) ())) Q :=
  enter (dats m) 0 (region0 m) d Q
/-- and the last's. -/
theorem last_call (d : Dev nD) (Q : PUnit → sProp 𝕄) :
    iprop((iprop(boundary (SparseCore.T d : Thread nD τ) ∗ heldAt d (V6 m d) ∗ owing d 1) -∗ Q ⟨⟩)
        ∗ boundary (SparseCore.T d : Thread nD τ) ∗ (heldAt d (V5 m d) ∗ owing d 1) ∗ levAts (K (F := F)).L (K (F := F)).lev ∗ ghost 1 d)
      ⊢ wp frame (wpE ((K (F := F)).defs (D (F := F))) 𝒱 (SparseCore.T d) none) Set.univ
          (Prog.lift (.customCall (SparseCore.inner (Pipeline.entry 1)) ())) Q :=
  enter (dats m) 1 (region1 m) d Q

/-! ## @main -/

/-- A host operation over all the arrays. -/
theorem host_step (d : Dev nD) (op : HloOp τ sig (Elt F)) (h : op.bufs ⊆ StableHlo.tcRefs τ sig) (hf : op.fresh = ∅) {W W' : Valuation τ sig (Elt F)}
    (hW : op.result W = W') (Q : PUnit → sProp 𝕄) :
    iprop((iprop(boundary (SparseCore.T d : Thread nD τ) ∗ heldAt d W') -∗ Q ⟨⟩) ∗ boundary (SparseCore.T d : Thread nD τ) ∗ heldAt d W)
      ⊢ wp frame (wpE ((K (F := F)).defs (D (F := F))) 𝒱 (SparseCore.T d) none) Set.univ
          (hlo (p := (SparseCore.T d : Thread nD τ).2) rfl op fun _ => .ret ⟨⟩) Q := by
  subst hW
  iintro ⟨Hk, Hb, Hh⟩
  iapply (wp_hlo_within 𝒱 (SparseCore.T d) none Set.univ (op := op) (S := Pipeline.ucRefs τ sig) (Pipeline.sub_ucRefs op h) (V := W) (hf := hf)) $$ [Hb Hh]
  · isplitl [Hb] <;> iassumption
  iintro H
  rw [wp_ret]; imodintro
  iapply Hk; iexact H

/-- What the launch holds of the TensorCore between calls is what it owes, and the rest. -/
theorem tcSt_split (d : Dev nD) (n : ℕ) : ∃ R : sProp 𝕄, (K (F := F)).tcSt EH d n = iprop(owing d n ∗ R) := ⟨_, rfl⟩

/-- @main leaves every array at its last contents. -/
theorem hmain (ρ : Dev nD → PrngReg) (κ : GSem nD τ sig → ℕ) (d : Dev nD) :
    iprop((K (F := F)).ctx EH (P m (tab m)) κ ∗ (K (F := F)).tcSt EH d 0 ∗ (K (F := F)).tcRes m ρ d ∗ (ghost 0 d ∗ ghost 1 d))
      ⊢ wp frame (wpE ((K (F := F)).defs (D (F := F))) 𝒱 (SparseCore.T d) none) Set.univ (main d)
          fun _ => iprop((K (F := F)).tcSt EH d 1 ∗ heldAt d (V7 m d) ∗ (K (F := F)).tcEnd d) := by
  obtain ⟨R0, h0⟩ := tcSt_split (F := F) d 0
  obtain ⟨R1, h1⟩ := tcSt_split (F := F) d 1
  unfold SparseCore.Cfg.tcRes SparseCore.Cfg.tcEnd
  rw [show (unscopedBufs d (fun b => m ((SparseCore.T d).loc b)) : sProp 𝕄) = heldAt d (V0 m d) from Pipeline.unscopedBufs_held d (V0 m d)]
  simp only [main, wp_bind, wp_pure]
  iintro ⟨#Hctx, Hst, ⟨Hb, Hheld, Hts, -⟩, ⟨Hg0, Hg1⟩⟩
  ihave #Hlev := (SparseCore.Cfg.ctx_levAts κ) $$ Hctx
  iapply (host_step d opColumn (StableHlo.reshape_bufs_sub _ _ _ _ _ _) rfl (W := V0 m d) (W' := V1 m d) rfl)
  isplitr [Hb Hheld]; rotate_left
  · isplitl [Hb] <;> iassumption
  iintro ⟨Hb, Hheld⟩
  iapply (first_call m d)
  ihave Hst' := (Entails.of_eq h0) $$ Hst
  icases Hst' with ⟨HO, HR⟩
  isplitr [Hb Hheld HO Hg0]; rotate_left
  · isplitl [Hb]; · iexact Hb
    isplitl [Hheld HO]; · isplitl [Hheld] <;> iassumption
    isplitr; · iexact Hlev
    iexact Hg0
  iintro ⟨Hb, Hheld, HO⟩
  ihave Hst := (Entails.of_eq h0.symm) $$ [HO HR]
  · isplitl [HO] <;> iassumption
  iapply (host_step d opFlat (StableHlo.reshape_bufs_sub _ _ _ _ _ _) rfl (W := V2 m d) (W' := V3 m d) rfl)
  isplitr [Hb Hheld]; rotate_left
  · isplitl [Hb] <;> iassumption
  iintro ⟨Hb, Hheld⟩
  ihave Hh := (Entails.of_eq (held_before m d)) $$ Hheld
  icases Hh with ⟨Hin, Hrest⟩
  iapply ((K (F := F)).wp_run (D (F := F)) 𝒱 (EH := EH) (P := P m (tab m)) κ d 0)
  isplitr; · iexact Hctx
  isplitl [Hst]; · iexact Hst
  isplitl [Hin]; · rw [st_eq]; iexact Hin
  iintro ⟨Hst, Hdn⟩
  ihave Hdn' := (Entails.of_eq (dn_eq m (tab m) d)) $$ Hdn
  ihave Hheld := (Entails.of_eq (held_after m d).symm) $$ [Hdn' Hrest]
  · isplitl [Hdn'] <;> iassumption
  iapply (host_step d opColumn' (StableHlo.reshape_bufs_sub _ _ _ _ _ _) rfl (W := V4 m d) (W' := _) rfl)
  isplitr [Hb Hheld]; rotate_left
  · isplitl [Hb] <;> iassumption
  iintro ⟨Hb, Hheld⟩
  iapply (host_step d opTable (StableHlo.reshape_bufs_sub _ _ _ _ _ _) rfl (W' := _) rfl)
  isplitr [Hb Hheld]; rotate_left
  · isplitl [Hb] <;> iassumption
  iintro ⟨Hb, Hheld⟩
  iapply (host_step d opGather (StableHlo.reshape_bufs_sub _ _ _ _ _ _) rfl (W' := V5 m d) rfl)
  isplitr [Hb Hheld]; rotate_left
  · isplitl [Hb] <;> iassumption
  iintro ⟨Hb, Hheld⟩
  iapply (last_call m d)
  ihave Hst' := (show (K (F := F)).tcSt EH d ((0 : Fin 1).val + 1) ⊢ _ from Entails.of_eq h1) $$ Hst
  icases Hst' with ⟨HO, HR⟩
  isplitr [Hb Hheld HO Hg1]; rotate_left
  · isplitl [Hb]; · iexact Hb
    isplitl [Hheld HO]; · isplitl [Hheld] <;> iassumption
    isplitr; · iexact Hlev
    iexact Hg1
  iintro ⟨Hb, Hheld, HO⟩
  ihave Hst := (Entails.of_eq h1.symm) $$ [HO HR]
  · isplitl [HO] <;> iassumption
  iapply (host_step d opOut (StableHlo.reshape_bufs_sub _ _ _ _ _ _) rfl (W := V6 m d) (W' := V7 m d) rfl)
  isplitr [Hb Hheld]; rotate_left
  · isplitl [Hb] <;> iassumption
  iintro ⟨Hb, Hheld⟩
  imodintro
  isplitl [Hst]; · iexact Hst
  isplitl [Hheld]; · iexact Hheld
  isplitl [Hb] <;> iassumption

/-! ## The launch -/

/-- The launch's ghost state: the handshakes' rounds, the two calls' rounds, no counters. -/
def u₀ : UU := (initOf (K (F := F)).hsCells (K (F := F)).hsToks,
  (initOf (Pipeline.cells (nD := nD) (τ := τ) (Pipeline.pin (pcfgs (F := F)) adm) cellOf_inj)
    (Pipeline.launchToks (nD := nD) (τ := τ) (Pipeline.pin (pcfgs (F := F)) adm) cellOf_inj), 1))

/-- Nothing per thing is nothing. -/
theorem bigSep_nothing {I : Type} (s : Finset I) : (bigSep s fun _ => iprop(emp)) = (iprop(emp) : sProp 𝕄) := bigSep_emp_const s

/-- A call's ghost state on each core. -/
theorem ghost_split :
    iprop((bigSep Finset.univ fun d : Dev nD => bigSep Finset.univ fun p : Fin 2 => (Pipeline.cellsGhost (Pipeline.pin (pcfgs (F := F)) adm) EP p d : sProp 𝕄))
        ∗ (bigSep Finset.univ fun d : Dev nD => bigSep Finset.univ fun p : Fin 2 => (Pipeline.toksInit (Pipeline.pin (pcfgs (F := F)) adm) EP p d : sProp 𝕄)))
      ⊢ bigSep Finset.univ fun d : Dev nD => iprop(ghost (F := F) 0 d ∗ ghost 1 d) := by
  rw [← bigSep_sep']
  refine bigSep_mono fun d _ => ?_
  rw [bigSep_fin_two, bigSep_fin_two]
  show (iprop((_ ∗ _) ∗ (_ ∗ _)) : sProp 𝕄) ⊢ iprop((_ ∗ _) ∗ (_ ∗ _))
  iintro ⟨⟨Hg0, Hg1⟩, Ht0, Ht1⟩
  isplitl [Hg0 Ht0]
  · isplitl [Hg0] <;> iassumption
  isplitl [Hg1] <;> iassumption

set_option backward.isDefEq.respectTransparency.types false in
/-- It gives each thread what the launch asks. -/
theorem hu₀ : (ownU (u₀ (F := F)) : sProp 𝕄)
    ⊢ |={Set.univ}=> iprop(BI.own (EH (initOf (K (F := F)).hsCells (K (F := F)).hsToks)) ∗ (bigSep Finset.univ fun d : Dev nD => iprop(ghost (F := F) 0 d ∗ ghost 1 d))
        ∗ bigSep Finset.univ fun thr : Thread nD τ => bigSep Finset.univ fun q : Fin 1 => (P m (tab m)).x q thr) := by
  unfold u₀
  iintro Hu
  ihave H := (ownU_pair (initOf (K (F := F)).hsCells (K (F := F)).hsToks) _) $$ Hu
  icases H with ⟨HH, HP⟩
  ihave H := (show (BI.own (embR ((_ : UP), (1 : Counters))) : sProp 𝕄) ⊢ iprop(BI.own (EP _) ∗ _) from own_pair_emb (embR : Emb (UP × Counters) 𝕄) _ _) $$ HP
  icases H with ⟨HP, -⟩
  imod (Pipeline.fund_ghost (nD := nD) (τ := τ) (Pipeline.pin (pcfgs (F := F)) adm) EP cellOf_inj) $$ HP with H
  imodintro
  isplitl [HH]; · iexact HH
  isplitl [H]
  · iapply ghost_split; iexact H
  rw [show (bigSep Finset.univ fun thr : Thread nD τ => bigSep Finset.univ fun q : Fin 1 => (P (F := F) m (tab m)).x q thr) = bigSep Finset.univ fun _ => iprop(emp) from
    bigSep_congr fun _ _ => bigSep_univ_of_subsingleton (0 : Fin 1), bigSep_nothing]
  iempintro

/-- The final memory of device `d`: every array at its last contents. -/
def fq (d : Dev nD) (s' : Phys nD τ sig (Elt F)) : Prop := ∀ b ∈ Pipeline.ucRefs τ sig, s'.mem.mem (d, b) = V7 m d b

/-- What is held at the end is in the memory. -/
theorem hfin (d : Dev nD) (s' : Phys nD τ sig (Elt F)) : iprop(heldAt d (V7 m d) ∗ SI s') ⊢ (⌜fq m d s'⌝ : sProp 𝕄) := by
  refine (pointsTo_read_all (Pipeline.ucRefs τ sig) (fun b => (d, b)) (fun b => V7 m d b) s').trans ?_
  iintro ⟨%h, -⟩
  ipureintro; exact h

/-- The run's end: every array at its last contents, no semaphore raised. -/
def QC : PUnit × MemSt nD τ sig (Elt F) → Prop := fun r =>
  (∀ c : Dev nD, ∀ b ∈ Pipeline.ucRefs τ sig, r.2.mem (c, b) = V7 m c b) ∧ r.2.sem = fun _ => 0

/-- The program runs, and ends with every array at its last contents. -/
theorem run_main (ρ : Dev nD → PrngReg) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m (tab m)) (A := ∅) scFacts v₀
    (fun q hq => match q with | 0 => nomatch hq)
    (fun q _ => match q with | 0 => tileObl m (tab m) scFacts)
    (fun q _ => match q with | 0 => SparseCore.Cfg.VecSplit.of_plain (vecSplit m (tab m)))
    m ρ main (fun d => iprop(ghost 0 d ∗ ghost 1 d)) (fun d => heldAt d (V7 m d)) (u₀ (F := F)) (sep_elim_left.trans (hu₀ m)) (hmain m ρ) (fq m) (hfin m)
    (QC m) (fun _ h hz => ⟨h, hz⟩)

/-! ## The final contents of what the claims read -/

/-- The reshapes after the last call and the last call itself leave the arrays they do not write. -/
theorem V7_kept (d : Dev nD) {b : Ref sig .tc} (h8 : b ≠ main_v8) (h2 : ∀ w : Fin cfg2.W, b ≠ Pipeline.arrRef spec2 w)
    (h6 : b ≠ main_v6) (h5 : b ≠ main_v5) (h4 : b ≠ main_v4) : V7 m d (Proc.devRef .tc b) = V4 m d (Proc.devRef .tc b) := by
  unfold V7 V6 V5
  rw [StableHlo.reshape_result_ne _ _ _ _ _ _ _ h8, Pipeline.afterRegion_of_not_arr _ _ h2,
    StableHlo.reshape_result_ne _ _ _ _ _ _ _ h6, StableHlo.reshape_result_ne _ _ _ _ _ _ _ h5, StableHlo.reshape_result_ne _ _ _ _ _ _ _ h4]

/-- The targets are the launch's, -/
theorem V7_targets (d : Dev nD) : V7 m d (Proc.devRef .tc main_arg1) = m (tLoc d) := by
  rw [V7_kept m d (by decide) (by decide) (by decide) (by decide) (by decide)]
  unfold V4
  rw [Function.update_of_ne (by decide), V3_targets]

/-- the first call's matrix is the launch's, -/
theorem V1_matrix (d : Dev nD) : V1 m d (Proc.devRef .tc main_arg0) = m ((SparseCore.T d).loc main_arg0) := by
  unfold V1
  rw [StableHlo.reshape_result_ne _ _ _ _ _ _ _ (by decide)]; rfl

/-- and it stays. -/
theorem V7_matrix (d : Dev nD) : V7 m d (Proc.devRef .tc main_arg0) = m ((SparseCore.T d).loc main_arg0) := by
  rw [V7_kept m d (by decide) (by decide) (by decide) (by decide) (by decide)]
  unfold V4 V3 V2
  rw [Function.update_of_ne (by decide), StableHlo.reshape_result_ne _ _ _ _ _ _ _ (by decide)]
  refine (Pipeline.afterRegion_arr (dat0 (V1 m) d) (V1 m d) winFacts0.arr_inj (0 : Fin cfg0.W)).trans ?_
  rw [(dat0 (V1 m) d).arrAt_in 0 rfl, dat0_A]
  exact V1_matrix m d

/-- The program ends with its arguments unchanged, the result at its last contents and no semaphore raised. -/
theorem run_all (ρ : Dev nD → PrngReg) :
    θ_run (Cert.KernelIdeal.defs (F := F)) (Cert.KernelIdeal.threads (F := F)) ⟨m, fun _ => 0, ρ⟩ (fun r => (∀ c : Dev nD,
      r.2.mem ((c.tc : Thread nD τ).loc main_v8) = V7 m c (Proc.devRef .tc main_v8)
      ∧ r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run _ _ _).mono (fun _ h => ⟨fun c => ⟨h.1 c _ (Pipeline.devRef_mem_ucRefs rfl),
    (h.1 c _ (Pipeline.devRef_mem_ucRefs (b := main_arg0) rfl)).trans (V7_matrix m c),
    (h.1 c _ (Pipeline.devRef_mem_ucRefs (b := main_arg1) rfl)).trans (V7_targets m c)⟩, h.2⟩) (run_main m ρ)

end Cert.Proof.Smooth
-- ==== Proof.Frames.lean ====
/-
  The frames, and what the two named constants are at the two readings of the kernel.
-/
module

public import proofs.«01_k».proof.Defs
public import proofs.«01_k».proof.Proof.Main
public import proofs.«01_k».proof.Proof.Gen.Kernel
public import proofs.«01_k».proof.Proof.Gen.Pre_pre
public import proofs.«01_k».proof.Proof.Gen.ReferenceIdeal.Run

@[expose] public section

set_option maxRecDepth 16384

noncomputable section

namespace Cert.Proof.Smooth

open Idealize.ShloMosaic Idealize.SL.Sem

instance : Cert.Kernel.Facts := Cert.Kernel.Gen.facts
instance : Cert.Pre_pre.Facts := Cert.Pre_pre.Gen.facts

/-- Over the machine's floats a named constant is the literal it was printed for, so that the kernel with its constants named
    is there the kernel as written. -/
instance literals : Named Bits where
  named _ _ w := Scalar.ofBits w

/-- The two texts' bodies, part by part: -/
theorem bodies_eq : (Cert.Kernel.defs₀ (F := Bits)) = (Cert.KernelIdeal.defs₀ (F := Bits)) := by
  funext p ℓ a
  match p, ℓ, a with
  | .tc, 0, (t, s) => rfl
  | .tc, 1, _ => rfl
  | .tc, 2, (t, s) => rfl
  | .scVector c s, 0, _ => rfl
  | .scVector c s, 1, _ => rfl
  | .scVector c s, 2, _ => rfl
  | .scScalar c, 0, _ => rfl
  | .scScalar c, 1, _ => rfl
  | .scScalar c, 2, _ => rfl

set_option maxHeartbeats 4000000 in
/-- their main functions, -/
theorem main_eq : (Cert.Kernel.main (F := Bits)) = (Cert.KernelIdeal.main (F := Bits)) := by
  funext d
  unfold Cert.Kernel.main Cert.KernelIdeal.main
  with_unfolding_all rfl

/-- their tables, -/
theorem defs_eq : (Cert.Kernel.defs (F := Bits)) = (Cert.KernelIdeal.defs (F := Bits)) :=
  congrArg (fun D => Cert.KernelIdeal.sc.defs (Pipeline.defs Cert.KernelIdeal.pcfgs D)) bodies_eq

/-- and what their threads run. -/
theorem threads_eq : (Cert.Kernel.threads (F := Bits)) = (Cert.KernelIdeal.threads (F := Bits)) :=
  congrArg (fun M => (Cert.KernelIdeal.sc (F := Bits)).threads M) main_eq

/-- The kernel as written runs and leaves its arguments alone. -/
theorem frame_kernel : Cert.quiescent_Kernel := by
  intro m ρ _
  rw [defs_eq, threads_eq]
  exact (θ_run Cert.KernelIdeal.defs _ _).mono (fun _ h => ⟨fun c => (h.1 c).2, h.2⟩) (run_all (F := Bits) m ρ)

/-- So does the kernel over the extended reals, -/
theorem frame_ideal : Cert.quiescent_KernelIdeal := fun m ρ _ =>
  (θ_run Cert.KernelIdeal.defs _ _).mono (fun _ h => ⟨fun c => (h.1 c).2, h.2⟩) (run_all (F := Ideal) m ρ)

/-- with the precondition or without it; -/
theorem frame_ideal_pre : Cert.quiescent_KernelIdeal_pre_pre := fun m ρ _ => frame_ideal m ρ trivial

/-- and the reference. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- with the precondition or without it; -/
theorem frame_reference_pre : Cert.quiescent_ReferenceIdeal_pre_pre := fun m ρ _ => frame_reference m ρ trivial

/-- The kernel over the extended reals is the kernel, two of its literals read as the reals they stand for. -/
theorem named : Cert.preserves_Kernel_KernelIdeal :=
  ⟨IdealRules.named_const.statement Cert.KernelIdeal.κ "crow" .f32 0xBFAE63F8#32 _ rfl,
    IdealRules.named_const.statement Cert.KernelIdeal.κ "gap" .f32 0x3F666632#32 _ rfl⟩

end Cert.Proof.Smooth
-- ==== Proof.Consts.lean ====
/-
  The constants, at the extended reals: each literal is the rational that its word is, the kernel's two named ones are
  the reals they were computed from.
-/
module

public import proofs.«01_k».proof.KernelIdeal
public import Idealize.ShloMosaic.PureOps.IdealRules
public import Mathlib.Analysis.SpecialFunctions.Pow.Real

@[expose] public section

noncomputable section

namespace Cert.Proof.Smooth

open Idealize.ShloMosaic

/-- The weight of a class that is neither the target nor the ignored one. -/
def lowW : ℝ := 6872377 / 2199023255552
/-- The target's weight. -/
def highW : ℝ := 7549747 / 8388608
/-- What a row's weights add to its loss apart from the logits: each weight times its logarithm. -/
def rowConst : ℝ := 31998 * (lowW * Real.log lowW) + highW * Real.log highW

/-- The low weight is positive, -/
theorem lowW_pos : 0 < lowW := by unfold lowW; norm_num
/-- and so is the target's. -/
theorem highW_pos : 0 < highW := by unfold highW; norm_num

/-- A positive number and its logarithm. -/
structure Logs (y v : ℝ) : Prop where
  pos : 0 < y
  log : Real.log y = v

/-- One has logarithm zero, -/
theorem Logs.one : Logs 1 0 := ⟨one_pos, Real.log_one⟩
/-- a square root half its square's, -/
theorem Logs.root {y v : ℝ} (h : Logs y v) : Logs (Real.sqrt y) (v / 2) :=
  ⟨Real.sqrt_pos.mpr h.pos, by rw [Real.log_sqrt h.pos.le, h.log]⟩
/-- and a weight more adds the weight's. -/
theorem Logs.low {y v : ℝ} (h : Logs y v) : Logs ((6872377 / 2199023255552) * y) (Real.log lowW + v) :=
  ⟨mul_pos lowW_pos h.pos, by rw [← h.log]; exact Real.log_mul lowW_pos.ne' h.pos.ne'⟩
/-- and the target's weight more adds its own logarithm. -/
theorem Logs.high {y v : ℝ} (h : Logs y v) : Logs ((7549747 / 8388608) * y) (Real.log highW + v) :=
  ⟨mul_pos highW_pos h.pos, by rw [← h.log]; exact Real.log_mul highW_pos.ne' h.pos.ne'⟩

/-- The kernel's constant of a row, spelt as the logarithm of a product of the two weights' roots. -/
theorem named_crow : Named.named (F := Ideal) Cert.KernelIdeal.κ "crow" (φ := .f32) 0xBFAE63F8#32 = ((rowConst : ℝ) : EReal) := by
  refine (IdealRules.named_const.ideal_named_scalar _ _ _ _ rfl).trans ?_
  refine congrArg _ (Logs.log (v := rowConst) ?_)
  have e : ∀ {y v w : ℝ}, Logs y v → v = w → Logs y w := fun h q => q ▸ h
  refine e (by repeat first | exact Logs.one | apply Logs.root | apply Logs.high | apply Logs.low) ?_
  unfold rowConst
  generalize Real.log lowW = a
  generalize Real.log highW = b
  unfold lowW highW
  ring

/-- The kernel's difference of the two weights. -/
theorem named_gap : Named.named (F := Ideal) Cert.KernelIdeal.κ "gap" (φ := .f32) 0x3F666632#32 = ((highW - lowW : ℝ) : EReal) := by
  refine (IdealRules.named_const.ideal_named_scalar _ _ _ _ rfl).trans (congrArg _ ?_)
  unfold lowW highW; norm_num

/-- The bit pattern of zero, -/
theorem word_zero : Ideal.ofBits .f32 0x00000000#32 = 0 := by simp [Ideal.ofBits, Ideal.ieee]
/-- of one, -/
theorem word_one : Ideal.ofBits .f32 0x3F800000#32 = 1 := by simp [Ideal.ofBits, Ideal.ieee, -EReal.coe_mul]; norm_num
/-- of infinity, -/
theorem word_inf : Ideal.ofBits .f32 0x7F800000#32 = ⊤ := by simp [Ideal.ofBits, Ideal.ieee]
/-- of the number of rows, -/
theorem word_rows : Ideal.ofBits .f32 0x45800000#32 = ((4096 : ℝ) : EReal) := by
  simp [Ideal.ofBits, Ideal.ieee, -EReal.coe_mul]; norm_num
/-- of its reciprocal, -/
theorem word_mean : Ideal.ofBits .f32 0x39800000#32 = ((1 / 4096 : ℝ) : EReal) := by
  simp [Ideal.ofBits, Ideal.ieee, -EReal.coe_mul]; norm_num
/-- of the low weight -/
theorem word_low : Ideal.ofBits .f32 0x3651BA72#32 = ((lowW : ℝ) : EReal) := by
  unfold lowW; simp [Ideal.ofBits, Ideal.ieee, -EReal.coe_mul]; norm_num
/-- and of the target's weight, each read as a number. -/
theorem word_high : Ideal.ofBits .f32 0x3F666666#32 = ((highW : ℝ) : EReal) := by
  unfold highW; simp [Ideal.ofBits, Ideal.ieee, -EReal.coe_mul]; norm_num

end Cert.Proof.Smooth

end
-- ==== Proof.KernelSums.lean ====
/-
  The first call's sums over the reals. Of a block whose entries are reals, what a point adds to the row sums and to
  the target's slab: plain sums over the block's fifty slabs.
-/
module

public import proofs.«01_k».proof.Proof.Slabs
public import proofs.«01_k».proof.Proof.Consts
public import Idealize.ShloMosaic.Lib.Pipeline.Value
public import Idealize.ShloMosaic.Lib.ValueIdx
public import Idealize.ShloMosaic.PureOps.Ideal.Laws

@[expose] public section

noncomputable section

namespace Cert.Proof.Smooth

open Cert.KernelIdeal Cert.KernelIdeal.Gen
open Idealize.ShloMosaic Idealize.ShloMosaic.ValueIdx

/-- Small naturals, as words, are equal exactly when they are. -/
theorem word_inj {a b : ℕ} (ha : a < 2 ^ 32) (hb : b < 2 ^ 32) : BitVec.ofNat 32 a = BitVec.ofNat 32 b ↔ a = b := by
  rw [← BitVec.toNat_inj, BitVec.toNat_ofNat, BitVec.toNat_ofNat, Nat.mod_eq_of_lt ha, Nat.mod_eq_of_lt hb]

/-- A comparison's bit of two small naturals. -/
theorem word_eq_bit {a b : ℕ} (ha : a < 2 ^ 32) (hb : b < 2 ^ 32) :
    IntOp.cmpi .eq (BitVec.ofNat 32 a) (BitVec.ofNat 32 b) = if a = b then 1#1 else 0#1 := by
  by_cases h : a = b
  · subst h; rw [if_pos rfl]; simp [IntOp.cmpi]
  · rw [if_neg h]
    have h' : BitVec.ofNat 32 a ≠ BitVec.ofNat 32 b := fun e => h ((word_inj ha hb).mp e)
    show BitVec.ofBool (BitVec.ofNat 32 a == BitVec.ofNat 32 b) = 0#1
    rw [beq_eq_false_iff_ne.mpr h']; rfl

/-- A small natural's word shifted right by seven: the natural over 128. -/
theorem word_slab {a : ℕ} (ha : a < 2147483648) : IntOp.shrsi .vector (BitVec.ofNat 32 a) 7#32 = BitVec.ofNat 32 (a / 128) := by
  have hm : (BitVec.ofNat 32 a).msb = false := by
    rw [BitVec.msb_eq_decide, BitVec.toNat_ofNat, decide_eq_false_iff_not]; norm_num; omega
  have e : (BitVec.ofNat 32 a).sshiftRight 7 = BitVec.ofNat 32 (a / 128) := by
    rw [BitVec.sshiftRight_eq_of_msb_false hm]
    apply BitVec.eq_of_toNat_eq
    rw [BitVec.toNat_ushiftRight, BitVec.toNat_ofNat, BitVec.toNat_ofNat, Nat.shiftRight_eq_div_pow]
    norm_num; omega
  exact e

section

variable (i : grid0.Coords) (X : Vec Ideal S1024x6400 .f32) (b : ℕ → ℕ → ℝ)
variable (hX : ∀ (r : Fin 1024) (c : Fin 6400), X (ix2 r c) = ((b r.val c.val : ℝ) : EReal))

include hX

/-- A slab's element. -/
theorem slab_at (k : Fin 50) (r : Fin 1024) (l : Fin 128) : slab X k (ix2 r l) = ((b r.val (128 * k.val + l.val) : ℝ) : EReal) := by
  have hk := k.isLt
  have hl := l.isLt
  unfold slab
  rw [extractStridedSlice_apply _ X _ (ix2 r l) (ix2 r (⟨128 * k.val + l.val, by omega⟩ : Fin 6400))
    (fun a => match a with | ⟨0, _⟩ => (Nat.zero_add _).symm | ⟨1, _⟩ => rfl), hX]

/-- The ignored column's element: on lane 0 of the first block of columns. -/
theorem ignored_at (r : Fin 1024) (l : Fin 128) :
    ignored i X (ix2 r l) = ((if l.val = 0 ∧ (i 1).val = 0 then b r.val 0 else 0 : ℝ) : EReal) := by
  have hl := l.isLt
  have hi : (i 1).val < 5 := (i 1).isLt
  have e1 : cmpi .eq (iota .tc S1024x128 32 [1] iota_S1024x128_d1_w32) (broadcast S1024x128 0#32) (ix2 r l) = if l.val = 0 then 1#1 else 0#1 := by
    show IntOp.cmpi .eq (iota .tc S1024x128 32 [1] iota_S1024x128_d1_w32 (ix2 r l)) 0#32 = _
    rw [iota_single_apply .tc S1024x128 32 1]
    exact word_eq_bit (a := l.val) (b := 0) (by omega) (by omega)
  have e2 : Scalar.cmpi .eq (BitVec.ofNat 32 (i 1).val) 0#32 = if (i 1).val = 0 then 1#1 else 0#1 :=
    word_eq_bit (a := (i 1).val) (b := 0) (by omega) (by omega)
  have e3 : broadcastTo S1024x128 (shapeCast S1024x1 (extractStridedSlice S1024x1 ![0, 0] X slices_S1024x6400_o0_0_S1024x1)
      shapeCasts_S1024x1_S1024x1) broadcasts_S1024x1_S1024x128 (ix2 r l) = ((b r.val 0 : ℝ) : EReal) := by
    rw [broadcastTo_apply _ _ (ix2 r l) (ix2 r (0 : Fin 1)) (fun a => match a with | ⟨0, _⟩ => rfl | ⟨1, _⟩ => rfl), shapeCast_self,
      extractStridedSlice_apply _ X _ (ix2 r (0 : Fin 1)) (ix2 r (0 : Fin 6400))
        (fun a => match a with | ⟨0, _⟩ => (Nat.zero_add _).symm | ⟨1, _⟩ => rfl), hX]
    rfl
  unfold ignored
  show Scalar.select (IntOp.andi (cmpi .eq (iota .tc S1024x128 32 [1] iota_S1024x128_d1_w32) (broadcast S1024x128 0#32) (ix2 r l))
    (Scalar.cmpi .eq (BitVec.ofNat 32 (i 1).val) 0#32)) _ (Ideal.ofBits .f32 0x00000000#32) = _
  rw [e1, e2, e3, word_zero]
  by_cases h1 : l.val = 0 <;> by_cases h2 : (i 1).val = 0 <;> simp [h1, h2, Scalar.select, IntOp.andi]

/-- The first `n` slabs' sum, less the ignored column. -/
theorem rowsUpTo_at (r : Fin 1024) (l : Fin 128) : ∀ (n : ℕ) (h : n ≤ 50), rowsUpTo i X n h (ix2 r l)
    = ((∑ k ∈ Finset.range n, b r.val (128 * k + l.val) - (if l.val = 0 ∧ (i 1).val = 0 then b r.val 0 else 0) : ℝ) : EReal)
  | 0, _ => by
    show Ideal.ofBits .f32 0x00000000#32 - ignored i X (ix2 r l) = _
    rw [ignored_at i X b hX, word_zero, Finset.sum_range_zero, ← EReal.coe_zero, ← EReal.coe_sub]
  | n + 1, h => by
    show rowsUpTo i X n (Nat.le_of_succ_le h) (ix2 r l) + slab X ⟨n, h⟩ (ix2 r l) = _
    rw [rowsUpTo_at r l n, slab_at X b hX, ← EReal.coe_add, Finset.sum_range_succ]
    congr 1; ring

variable (T : Vec Ideal S1024x1 .i32) (t : ℕ → ℕ) (hT : ∀ r : Fin 1024, T (ix2 r (0 : Fin 1)) = BitVec.ofNat 32 (t r.val)) (ht : ∀ n, t n < 32000)

omit hX in
include hT ht in
/-- The mask's element: one where the row's target lies in the slab. -/
theorem slabMask_at (k : Fin 50) (r : Fin 1024) (l : Fin 128) :
    slabMask (F := Ideal) i T k (ix2 r l) = ((if t r.val / 128 = 50 * (i 1).val + k.val then 1 else 0 : ℝ) : EReal) := by
  have hk := k.isLt
  have hi : (i 1).val < 5 := (i 1).isLt
  have hr := ht r.val
  have ew : Scalar.addi (Scalar.muli (BitVec.ofNat 32 (i 1).val) 50#32) (BitVec.ofNat 32 k.val) = BitVec.ofNat 32 (50 * (i 1).val + k.val) := by
    show BitVec.ofNat 32 (i 1).val * BitVec.ofNat 32 50 + BitVec.ofNat 32 k.val = _
    rw [← BitVec.ofNat_mul, ← BitVec.ofNat_add, Nat.mul_comm]
  unfold slabMask
  rw [broadcastTo_apply _ _ (ix2 r l) (ix2 r (0 : Fin 1)) (fun a => match a with | ⟨0, _⟩ => rfl | ⟨1, _⟩ => rfl), shapeCast_self]
  show ((((IntOp.cmpi .eq (IntOp.shrsi .vector (T (ix2 r (0 : Fin 1))) 7#32)
    (Scalar.addi (Scalar.muli (BitVec.ofNat 32 (i 1).val) 50#32) (BitVec.ofNat 32 k.val))).setWidth 32).toInt : ℝ) : EReal) = _
  rw [hT, word_slab (by omega), ew, word_eq_bit (by omega) (by omega)]
  by_cases h : t r.val / 128 = 50 * (i 1).val + k.val
  · rw [if_pos h, if_pos h]; norm_num
  · rw [if_neg h, if_neg h]; norm_num

include hT ht in
/-- The first `n` slabs' sum, each under its mask. -/
theorem chunkUpTo_at (r : Fin 1024) (l : Fin 128) : ∀ (n : ℕ) (h : n ≤ 50), chunkUpTo i X T n h (ix2 r l)
    = ((∑ k ∈ Finset.range n, b r.val (128 * k + l.val) * (if t r.val / 128 = 50 * (i 1).val + k then 1 else 0) : ℝ) : EReal)
  | 0, _ => by
    show Ideal.ofBits .f32 0x00000000#32 = _
    rw [word_zero, Finset.sum_range_zero, EReal.coe_zero]
  | n + 1, h => by
    show chunkUpTo i X T n (Nat.le_of_succ_le h) (ix2 r l) + slab X ⟨n, h⟩ (ix2 r l) * slabMask i T ⟨n, h⟩ (ix2 r l) = _
    rw [chunkUpTo_at r l n, slab_at X b hX, slabMask_at i T t hT ht, ← EReal.coe_mul, ← EReal.coe_add, Finset.sum_range_succ]

end

end Cert.Proof.Smooth

end
-- ==== Proof.KernelArrays.lean ====
/-
  The first call's two results over the reals: per row and lane, the row's entries on that lane summed, the ignored
  class left out; and the entry on that lane of the target's slab.
-/
module

public import proofs.«01_k».proof.Proof.KernelSums
public import proofs.«01_k».proof.Proof.FirstCall
public import Idealize.ShloMosaic.Lib.Pipeline.ValueKit.Geometry

@[expose] public section

set_option maxRecDepth 16384

noncomputable section

namespace Cert.Proof.Smooth

open Cert.KernelIdeal Cert.KernelIdeal.Gen
open Idealize.ShloMosaic Idealize.ShloMosaic.ValueIdx
open Idealize.ShloMosaic.TcCoe
open Idealize.ShloMosaic.Pipeline (Dat Cfg Window)

/-- A point's block of rows, -/
theorem point_row : ∀ t : Fin cfg0.N, ((grid0.coords t) 0).val = t.val / 5 := by decide +kernel
/-- and of columns. -/
theorem point_col : ∀ t : Fin cfg0.N, ((grid0.coords t) 1).val = t.val % 5 := by decide +kernel

/-- Where the blocks of logits lie, -/
theorem place0 : ∀ t : Fin cfg0.N, win0_0.index t 0 = t.val / 5 ∧ win0_0.index t 1 = t.val % 5 := by decide +kernel
/-- of targets, -/
theorem place1 : ∀ t : Fin cfg0.N, win0_1.index t 0 = t.val / 5 ∧ win0_1.index t 1 = 0 := by decide +kernel
/-- of row sums -/
theorem place2 : ∀ t : Fin cfg0.N, win0_2.index t 0 = t.val / 5 ∧ win0_2.index t 1 = 0 := by decide +kernel
/-- and of masked sums. -/
theorem place3 : ∀ t : Fin cfg0.N, win0_3.index t 0 = t.val / 5 ∧ win0_3.index t 1 = 0 := by decide +kernel

variable (V : Dev nD → Valuation τ sig (Elt Ideal)) (c : Dev nD) (y : ℕ → ℕ → ℝ) (t : ℕ → ℕ)

/-- What the row sums' element on lane `l` of row `R` is after the first `n` slabs. -/
def laneSum (R l n : ℕ) : ℝ := ∑ q ∈ Finset.range n, y R (128 * q + l) - (if l = 0 then y R 0 else 0)
/-- What the masked sum's is. -/
def laneHit (R l n : ℕ) : ℝ := ∑ q ∈ Finset.range n, y R (128 * q + l) * (if t R / 128 = q then 1 else 0)

section

variable (hX : ∀ (r : Fin 4096) (k : Fin 32000), (V c (Proc.devRef .tc main_arg0) : S4096x32000.Idx → EReal) (ix2 r k) = ((y r.val k.val : ℝ) : EReal))

include hX in
/-- The block of logits at a point. -/
theorem logits_block (p : Fin cfg0.N) (r : Fin 1024) (k : Fin 6400) :
    (blockAt V c 0 p : S1024x6400.Idx → EReal) (ix2 r k) = ((y (1024 * (p.val / 5) + r.val) (6400 * (p.val % 5) + k.val) : ℝ) : EReal) := by
  have hr := r.isLt
  have hk := k.isLt
  have hp : p.val < 20 := p.isLt
  rw [show y (1024 * (p.val / 5) + r.val) (6400 * (p.val % 5) + k.val)
    = y (⟨1024 * (p.val / 5) + r.val, by omega⟩ : Fin 4096).val (⟨6400 * (p.val % 5) + k.val, by omega⟩ : Fin 32000).val from rfl, ← hX]
  show (V c (Proc.devRef .tc main_arg0) : S4096x32000.Idx → EReal) ((win0_0.blk p).view.emb (ix2 r k)) = _
  congr 1
  funext a
  apply Fin.ext
  match a with
  | ⟨0, _⟩ =>
    show (((win0_0.blk p).view.emb (ix2 r k)) 0).val = 1024 * (p.val / 5) + r.val
    blk_simp; rw [(place0 p).1]; show _ * 1024 + r.val = _; omega
  | ⟨1, _⟩ =>
    show (((win0_0.blk p).view.emb (ix2 r k)) 1).val = 6400 * (p.val % 5) + k.val
    blk_simp; rw [(place0 p).2]; show _ * 6400 + k.val = _; omega

variable (hT : ∀ r : Fin 4096, (V c (Proc.devRef .tc main_v0) : S4096x1.Idx → BitVec 32) (ix2 r (0 : Fin 1)) = BitVec.ofNat 32 (t r.val))

include hT in
/-- The block of targets at a point. -/
theorem targets_block (p : Fin cfg0.N) (r : Fin 1024) :
    (blockAt V c 1 p : S1024x1.Idx → BitVec 32) (ix2 r (0 : Fin 1)) = BitVec.ofNat 32 (t (1024 * (p.val / 5) + r.val)) := by
  have hr := r.isLt
  have hp : p.val < 20 := p.isLt
  rw [show t (1024 * (p.val / 5) + r.val) = t (⟨1024 * (p.val / 5) + r.val, by omega⟩ : Fin 4096).val from rfl, ← hT]
  show (V c (Proc.devRef .tc main_v0) : S4096x1.Idx → BitVec 32) ((win0_1.blk p).view.emb (ix2 r (0 : Fin 1))) = _
  congr 1
  funext a
  apply Fin.ext
  match a with
  | ⟨0, _⟩ =>
    show (((win0_1.blk p).view.emb (ix2 r (0 : Fin 1))) 0).val = 1024 * (p.val / 5) + r.val
    blk_simp; rw [(place1 p).1]; show _ * 1024 + r.val = _; omega
  | ⟨1, _⟩ =>
    show (((win0_1.blk p).view.emb (ix2 r (0 : Fin 1))) 1).val = 0
    blk_simp; rw [(place1 p).2]

include hX in
/-- What a point adds to the row sums: fifty slabs more, the ignored column at the first. -/
theorem rows_point (p : Fin cfg0.N) (r : Fin 1024) (l : Fin 128) :
    (partsAt V c p).1 (ix2 r l) = ((∑ k ∈ Finset.range 50, y (1024 * (p.val / 5) + r.val) (128 * (50 * (p.val % 5) + k) + l.val)
      - (if l.val = 0 ∧ p.val % 5 = 0 then y (1024 * (p.val / 5) + r.val) 0 else 0) : ℝ) : EReal) := by
  refine (rowsUpTo_at (grid0.coords p) _ (fun r k => y (1024 * (p.val / 5) + r) (6400 * (p.val % 5) + k)) (logits_block V c y hX p) r l 50 (Nat.le_refl 50)).trans ?_
  rw [point_col]
  congr 2
  · exact Finset.sum_congr rfl fun k _ => by congr 1; omega
  · by_cases h : l.val = 0 ∧ p.val % 5 = 0
    · rw [if_pos h, if_pos h, h.2]
    · rw [if_neg h, if_neg h]

include hX hT in
/-- What a point adds to the target's slab. -/
theorem hits_point (ht : ∀ n, t n < 32000) (p : Fin cfg0.N) (r : Fin 1024) (l : Fin 128) :
    (partsAt V c p).2 (ix2 r l) = ((∑ k ∈ Finset.range 50, y (1024 * (p.val / 5) + r.val) (128 * (50 * (p.val % 5) + k) + l.val)
      * (if t (1024 * (p.val / 5) + r.val) / 128 = 50 * (p.val % 5) + k then 1 else 0) : ℝ) : EReal) := by
  refine (chunkUpTo_at (grid0.coords p) _ (fun r k => y (1024 * (p.val / 5) + r) (6400 * (p.val % 5) + k)) (logits_block V c y hX p) _
    (fun r => t (1024 * (p.val / 5) + r)) (targets_block V c t hT p) (fun _ => ht _) r l 50 (Nat.le_refl 50)).trans ?_
  rw [point_col]
  congr 1
  exact Finset.sum_congr rfl fun k _ => by congr 2; omega

include hX in
/-- The row sums' buffer after each point: the slabs so far. -/
theorem rows_after (r : Fin 1024) (l : Fin 128) : ∀ (n : ℕ) (hn : n < cfg0.N), (sumsAt V c n hn).1 (ix2 r l)
    = ((laneSum y (1024 * (n / 5) + r.val) l.val (50 * (n % 5 + 1)) : ℝ) : EReal) := by
  intro n
  induction n with
  | zero =>
    intro hn
    rw [sumsAt_first V c ⟨0, hn⟩ rfl, rows_point V c y hX]
    unfold laneSum
    congr 2
    exact if_congr (and_iff_left rfl) rfl rfl
  | succ n ih =>
    intro hn
    by_cases h : (n + 1) % 5 = 0
    · rw [sumsAt_first V c ⟨n + 1, hn⟩ h, rows_point V c y hX]
      unfold laneSum
      simp only [h]
      congr 2
      exact if_congr (and_iff_left trivial) rfl rfl
    · rw [sumsAt_later V c ⟨n + 1, hn⟩ h]
      show (sumsAt V c n _).1 (ix2 r l) + (partsAt V c ⟨n + 1, hn⟩).1 (ix2 r l) = _
      rw [ih, rows_point V c y hX, ← EReal.coe_add]
      have e1 : (n + 1) / 5 = n / 5 := by omega
      have e2 : (n + 1) % 5 = n % 5 + 1 := by omega
      unfold laneSum
      simp only [e1, e2]
      rw [if_neg (show ¬(l.val = 0 ∧ n % 5 + 1 = 0) by omega), show 50 * (n % 5 + 1 + 1) = 50 * (n % 5 + 1) + 50 by omega, Finset.sum_range_add]
      congr 1; ring

include hX hT in
/-- The other's. -/
theorem hits_after (ht : ∀ n, t n < 32000) (r : Fin 1024) (l : Fin 128) : ∀ (n : ℕ) (hn : n < cfg0.N), (sumsAt V c n hn).2 (ix2 r l)
    = ((laneHit y t (1024 * (n / 5) + r.val) l.val (50 * (n % 5 + 1)) : ℝ) : EReal) := by
  intro n
  induction n with
  | zero =>
    intro hn
    rw [sumsAt_first V c ⟨0, hn⟩ rfl, hits_point V c y t hX hT ht]
    unfold laneHit
    congr 1
  | succ n ih =>
    intro hn
    by_cases h : (n + 1) % 5 = 0
    · rw [sumsAt_first V c ⟨n + 1, hn⟩ h, hits_point V c y t hX hT ht]
      unfold laneHit
      simp only [h]
      congr 1
    · rw [sumsAt_later V c ⟨n + 1, hn⟩ h]
      show (sumsAt V c n _).2 (ix2 r l) + (partsAt V c ⟨n + 1, hn⟩).2 (ix2 r l) = _
      rw [ih, hits_point V c y t hX hT ht, ← EReal.coe_add]
      have e1 : (n + 1) / 5 = n / 5 := by omega
      have e2 : (n + 1) % 5 = n % 5 + 1 := by omega
      unfold laneHit
      simp only [e1, e2]
      rw [show 50 * (n % 5 + 1 + 1) = 50 * (n % 5 + 1) + 50 by omega, Finset.sum_range_add]

include hX in
/-- The first result's array when the call is over. -/
theorem rows_array : (dat0 V c).arrAt 2 cfg0.N = fun i : S4096x128.Idx => ((laneSum y (i 0).val (i 1).val 250 : ℝ) : EReal) := by
  refine (dat0 V c).arrAt_eq_of_covers 2 _ (by decide +kernel) fun p hp x => ?_
  have h4 : p.val % 5 = 4 := (flush0_2 p).mp hp
  obtain ⟨r, l, rfl⟩ : ∃ (r : Fin 1024) (l : Fin 128), x = ix2 r l := ⟨x 0, x 1, eq_ix2 x⟩
  have e0 : (((win0_2.blk p).view.emb (ix2 r l)) 0).val = 1024 * (p.val / 5) + r.val := by
    blk_simp; rw [(place2 p).1]; show _ * 1024 + r.val = _; omega
  have e1 : (((win0_2.blk p).view.emb (ix2 r l)) 1).val = l.val := by
    blk_simp; rw [(place2 p).2]; show 0 * 128 + l.val = _; omega
  show (dat0 V c).after 2 p (ix2 r l) = ((laneSum y (((win0_2.blk p).view.emb (ix2 r l)) 0).val (((win0_2.blk p).view.emb (ix2 r l)) 1).val 250 : ℝ) : EReal)
  rw [e0, e1, after0_2, rows_after V c y hX, h4]

include hX hT in
/-- The second's. -/
theorem hits_array (ht : ∀ n, t n < 32000) : (dat0 V c).arrAt 3 cfg0.N = fun i : S4096x128.Idx => ((laneHit y t (i 0).val (i 1).val 250 : ℝ) : EReal) := by
  refine (dat0 V c).arrAt_eq_of_covers 3 _ (by decide +kernel) fun p hp x => ?_
  have h4 : p.val % 5 = 4 := (flush0_3 p).mp hp
  obtain ⟨r, l, rfl⟩ : ∃ (r : Fin 1024) (l : Fin 128), x = ix2 r l := ⟨x 0, x 1, eq_ix2 x⟩
  have e0 : (((win0_3.blk p).view.emb (ix2 r l)) 0).val = 1024 * (p.val / 5) + r.val := by
    blk_simp; rw [(place3 p).1]; show _ * 1024 + r.val = _; omega
  have e1 : (((win0_3.blk p).view.emb (ix2 r l)) 1).val = l.val := by
    blk_simp; rw [(place3 p).2]; show 0 * 128 + l.val = _; omega
  show (dat0 V c).after 3 p (ix2 r l) = ((laneHit y t (((win0_3.blk p).view.emb (ix2 r l)) 0).val (((win0_3.blk p).view.emb (ix2 r l)) 1).val 250 : ℝ) : EReal)
  rw [e0, e1, after0_3, hits_after V c y t hX hT ht, h4]

end

/-- Two hundred and fifty slabs under the mask: the target's, when the target is a class. -/
theorem laneHit_all (R l : ℕ) (h : t R < 32000) : laneHit y t R l 250 = y R (128 * (t R / 128) + l) := by
  unfold laneHit
  rw [Finset.sum_eq_single (t R / 128)]
  · rw [if_pos rfl, mul_one]
  · intro q _ hq; rw [if_neg (Ne.symm hq), mul_zero]
  · intro hq; exact absurd (Finset.mem_range.mpr (by omega)) hq

/-- The lanes of `n` slabs are their columns. -/
theorem lanes_columns (f : ℕ → ℝ) (n : ℕ) : ∑ l ∈ Finset.range 128, ∑ q ∈ Finset.range n, f (128 * q + l) = ∑ k ∈ Finset.range (128 * n), f k := by
  rw [Finset.sum_comm]
  induction n with
  | zero => rfl
  | succ n ih => rw [Finset.sum_range_succ, ih, Nat.mul_succ, Finset.sum_range_add]

/-- The row sums' lanes together: the row less the ignored class. -/
theorem laneSum_all (R : ℕ) : ∑ l ∈ Finset.range 128, laneSum y R l 250 = ∑ k ∈ Finset.range 32000, y R k - y R 0 := by
  unfold laneSum
  rw [Finset.sum_sub_distrib, lanes_columns, Finset.sum_ite_eq' _ _ (fun _ => _), if_pos (Finset.mem_range.mpr (by norm_num))]

end Cert.Proof.Smooth

end
-- ==== Proof.Loss.lean ====
/-
  The loss over the reals: the smoothed weights, and a row's loss summed class by class in closed form.
-/
module

public import proofs.«01_k».proof.Proof.Consts

@[expose] public section

noncomputable section

namespace Cert.Proof.Smooth

/-- A sum of reals, read as an extended real, is the sum of the reals so read. -/
theorem coe_total {ι : Type*} (s : Finset ι) (f : ι → ℝ) : ((∑ i ∈ s, f i : ℝ) : EReal) = ∑ i ∈ s, (f i : EReal) := by
  classical
  induction s using Finset.induction_on with
  | empty => rw [Finset.sum_empty, Finset.sum_empty, EReal.coe_zero]
  | insert a s ha ih => rw [Finset.sum_insert ha, Finset.sum_insert ha, EReal.coe_add, ih]

/-- The weight of class `c` in a row of target `g`: none where either is the ignored class. -/
def weight (g c : Fin 32000) : ℝ := if g = 0 ∨ c = 0 then 0 else if c = g then highW else lowW

/-- A row's loss in closed form, of logits `x` and target `g`. -/
def rowLoss (x : Fin 32000 → ℝ) (g : Fin 32000) : ℝ :=
  if g = 0 then 0 else rowConst - lowW * (∑ c, x c - x 0) - (highW - lowW) * x g

/-- The loss: the rows' mean. -/
def loss (x : Fin 4096 → Fin 32000 → ℝ) (g : Fin 4096 → Fin 32000) : ℝ := (∑ r, rowLoss (x r) (g r)) * (1 / 4096)

/-- A function of the weight, in a row that counts: its value at the low weight, with two classes put right. -/
theorem of_weight (f : ℝ → ℝ) (hf : f 0 = 0) {g : Fin 32000} (hg : g ≠ 0) (c : Fin 32000) :
    f (weight g c) = f lowW - (if c = 0 then f lowW else 0) + (if c = g then f highW - f lowW else 0) := by
  unfold weight
  by_cases h0 : c = 0
  · subst h0; rw [if_pos (Or.inr rfl), if_pos rfl, if_neg (Ne.symm hg), hf]; ring
  · rw [if_neg (not_or.mpr ⟨hg, h0⟩), if_neg h0]
    by_cases h1 : c = g
    · rw [if_pos h1, if_pos h1]; ring
    · rw [if_neg h1, if_neg h1]; ring

/-- Summed class by class, a row's loss is its closed form. -/
theorem row_sum (x : Fin 32000 → ℝ) (g : Fin 32000) :
    ∑ c, (weight g c * Real.log (weight g c) - weight g c * x c) = rowLoss x g := by
  unfold rowLoss
  by_cases hg : g = 0
  · rw [if_pos hg]
    refine Finset.sum_eq_zero fun c _ => ?_
    unfold weight; rw [if_pos (Or.inl hg)]; ring
  · rw [if_neg hg, Finset.sum_sub_distrib]
    have h1 : ∑ c, weight g c * Real.log (weight g c) = rowConst := by
      rw [Finset.sum_congr rfl fun c _ => of_weight (fun w => w * Real.log w) (zero_mul _) hg c, Finset.sum_add_distrib, Finset.sum_sub_distrib,
        Finset.sum_ite_eq' _ _ (fun _ => _), Finset.sum_ite_eq' _ _ (fun _ => _), if_pos (Finset.mem_univ _), if_pos (Finset.mem_univ _),
        Finset.sum_const, Finset.card_univ, Fintype.card_fin, nsmul_eq_mul]
      unfold rowConst; push_cast; ring
    have h2 : ∑ c, weight g c * x c = lowW * (∑ c, x c - x 0) + (highW - lowW) * x g := by
      rw [Finset.sum_congr rfl fun c _ => show weight g c * x c = lowW * x c - (if c = 0 then lowW * x c else 0) + (if c = g then (highW - lowW) * x c else 0) by
          rw [show weight g c = _ from of_weight (fun w => w) rfl hg c]; split_ifs <;> ring,
        Finset.sum_add_distrib, Finset.sum_sub_distrib, Finset.sum_ite_eq' _ _ (fun c => _), Finset.sum_ite_eq' _ _ (fun c => _),
        if_pos (Finset.mem_univ _), if_pos (Finset.mem_univ _), ← Finset.mul_sum]
      ring
    rw [h1, h2]; ring

end Cert.Proof.Smooth

end
-- ==== Proof.KernelMean.lean ====
/-
  The last call's value over the reals: the rows that count, the row sums and the gathered entries, each added up,
  combine into the mean of the rows' losses.
-/
module

public import proofs.«01_k».proof.Proof.KernelArrays
public import proofs.«01_k».proof.Proof.Loss

@[expose] public section

set_option maxRecDepth 16384

noncomputable section

namespace Cert.Proof.Smooth

open Cert.KernelIdeal Cert.KernelIdeal.Gen
open Idealize.ShloMosaic Idealize.ShloMosaic.ValueIdx

/-- A whole matrix added up as the last call adds it. -/
def wholeSum {A B : ℕ} (v : FVec Ideal (⟨2, ![A, B]⟩ : Shape) .f32) (hc : (⟨2, ![A, B]⟩ : Shape).ShapeCasts ⟨3, ![1, A, B]⟩)
    (hr : (⟨3, ![1, A, B]⟩ : Shape).Reduces [1, 2] S1) : EReal :=
  extractAt ![0, 0, 0] (shapeCast S1x1x1 (multiReduction (F := Ideal) .add [1, 2] S1 (shapeCast (⟨3, ![1, A, B]⟩ : Shape) v hc) 0x00000000#32 hr (.inl rfl) rfl)
    shapeCasts_S1_S1x1x1) inpos_S1x1x1_p0_0_0

/-- Of a matrix of reals it is their sum. -/
theorem wholeSum_of {A B : ℕ} (v : FVec Ideal (⟨2, ![A, B]⟩ : Shape) .f32) (f : ℕ → ℕ → ℝ)
    (hv : ∀ (p : Fin A) (q : Fin B), v (ix2 p q) = ((f p.val q.val : ℝ) : EReal))
    (hc : (⟨2, ![A, B]⟩ : Shape).ShapeCasts ⟨3, ![1, A, B]⟩) (hr : (⟨3, ![1, A, B]⟩ : Shape).Reduces [1, 2] S1) :
    wholeSum v hc hr = ((∑ p ∈ Finset.range A, ∑ q ∈ Finset.range B, f p q : ℝ) : EReal) := by
  unfold wholeSum extractAt
  rw [shapeCast_apply _ _ _ (ix1 (0 : Fin 1)) (by rw [Shape.rowMajor_val_one, Shape.rowMajor_val_three]; rfl)]
  refine (Ideal.multiReduction_add_total _ _ hr (fun b => match b with | ⟨0, _⟩ => rfl) (.inl rfl) rfl (ix1 (0 : Fin 1))).trans ?_
  refine (Equiv.sum_comp _ v).trans ?_
  rw [sum_idx2]
  rw [← Fin.sum_univ_eq_sum_range (fun p => ∑ q ∈ Finset.range B, f p q) A, coe_total]
  refine Finset.sum_congr rfl fun p _ => ?_
  rw [← Fin.sum_univ_eq_sum_range (fun q => f p.val q) B, coe_total]
  exact Finset.sum_congr rfl fun q _ => hv p q

/-- A row's loss by position: of the logits' row `R` and its target. -/
def rowLossAt (y : ℕ → ℕ → ℝ) (t : ℕ → ℕ) (R : ℕ) : ℝ :=
  if t R = 0 then 0 else rowConst - lowW * (∑ k ∈ Finset.range 32000, y R k - y R 0) - (highW - lowW) * y R (t R)

/-- Thirty-two blocks of 128 rows are the rows. -/
theorem blocks_rows (f : ℕ → ℝ) (n : ℕ) : ∑ a ∈ Finset.range n, ∑ l ∈ Finset.range 128, f (128 * a + l) = ∑ r ∈ Finset.range (128 * n), f r := by
  rw [Finset.sum_comm]; exact lanes_columns f n

/-- A selection on a target that is not the ignored class. -/
theorem select_counts {n : ℕ} (hn : n < 32000) (a b : ℝ) :
    Scalar.select (IntOp.cmpi .ne (BitVec.ofNat 32 n) 0#32) (a : EReal) (b : EReal) = ((if n = 0 then b else a : ℝ) : EReal) := by
  have e : IntOp.cmpi .ne (BitVec.ofNat 32 n) 0#32 = if n = 0 then 0#1 else 1#1 := by
    show BitVec.ofBool (BitVec.ofNat 32 n != BitVec.ofNat 32 0) = _
    by_cases h : n = 0
    · subst h; rfl
    · rw [if_neg h, bne_iff_ne.mpr fun e => h ((word_inj (by omega) (by omega)).mp e)]; rfl
  rw [e]
  by_cases h : n = 0
  · rw [if_pos h, if_pos h]; rfl
  · rw [if_neg h, if_neg h]; rfl

variable (y : ℕ → ℕ → ℝ) (t : ℕ → ℕ)

/-- The last call's value. -/
theorem mean_value (ht : ∀ n, t n < 32000) (T' : Vec Ideal S32x128 .i32) (T : Vec Ideal S4096x1 .i32) (R : Vec Ideal S4096x128 .f32) (G : Vec Ideal S32x128 .f32)
    (hT' : ∀ (a : Fin 32) (l : Fin 128), T' (ix2 a l) = BitVec.ofNat 32 (t (128 * a.val + l.val)))
    (hT : ∀ r : Fin 4096, T (ix2 r (0 : Fin 1)) = BitVec.ofNat 32 (t r.val))
    (hR : ∀ (r : Fin 4096) (l : Fin 128), R (ix2 r l) = ((laneSum y r.val l.val 250 : ℝ) : EReal))
    (hG : ∀ (a : Fin 32) (l : Fin 128), G (ix2 a l) = ((y (128 * a.val + l.val) (t (128 * a.val + l.val)) : ℝ) : EReal)) :
    k2_pay1 (F := Ideal) T' T R G = (((∑ r ∈ Finset.range 4096, rowLossAt y t r) * (1 / 4096) : ℝ) : EReal) := by
  have e1 := wholeSum_of (A := 32) (B := 128) (select (cmpi .ne (shapeCast S32x128 T' shapeCasts_S32x128_S32x128) (broadcast S32x128 0#32))
      (broadcast S32x128 (Scalar.ofBits (F := Ideal) .f32 0x3F800000#32)) (broadcast S32x128 (Scalar.ofBits (F := Ideal) .f32 0x00000000#32)))
    (fun a l => if t (128 * a + l) = 0 then 0 else 1) (fun a l => by
      show Scalar.select (IntOp.cmpi .ne (shapeCast S32x128 T' shapeCasts_S32x128_S32x128 (ix2 a l)) 0#32) (Ideal.ofBits .f32 0x3F800000#32) (Ideal.ofBits .f32 0x00000000#32) = _
      rw [shapeCast_self, hT', word_one, word_zero, ← EReal.coe_zero, ← EReal.coe_one, select_counts (ht _)])
    shapeCasts_S32x128_S1x32x128 reduces_S1x32x128_S1
  have e2 := wholeSum_of (A := 4096) (B := 128) (select (broadcastTo S4096x128 (shapeCast S4096x1 (cmpi .ne (shapeCast S4096x1 T shapeCasts_S4096x1_S4096x1) (broadcast S4096x1 0#32))
      shapeCasts_S4096x1_S4096x1) broadcasts_S4096x1_S4096x128) (shapeCast S4096x128 R shapeCasts_S4096x128_S4096x128) (broadcast S4096x128 (Scalar.ofBits (F := Ideal) .f32 0x00000000#32)))
    (fun r l => if t r = 0 then 0 else laneSum y r l 250) (fun r l => by
      show Scalar.select (broadcastTo S4096x128 (shapeCast S4096x1 (cmpi .ne (shapeCast S4096x1 T shapeCasts_S4096x1_S4096x1) (broadcast S4096x1 0#32))
        shapeCasts_S4096x1_S4096x1) broadcasts_S4096x1_S4096x128 (ix2 r l)) (shapeCast S4096x128 R shapeCasts_S4096x128_S4096x128 (ix2 r l)) (Ideal.ofBits .f32 0x00000000#32) = _
      rw [shapeCast_self, shapeCast_self, shapeCast_self, broadcastTo_apply _ _ (ix2 r l) (ix2 r (0 : Fin 1)) (fun a => match a with | ⟨0, _⟩ => rfl | ⟨1, _⟩ => rfl)]
      show Scalar.select (IntOp.cmpi .ne (T (ix2 r (0 : Fin 1))) 0#32) _ _ = _
      rw [hT, hR, word_zero, ← EReal.coe_zero, select_counts (ht _)])
    shapeCasts_S4096x128_S1x4096x128 reduces_S1x4096x128_S1
  have e3 := wholeSum_of (A := 32) (B := 128) (select (cmpi .ne (shapeCast S32x128 T' shapeCasts_S32x128_S32x128) (broadcast S32x128 0#32))
      (shapeCast S32x128 G shapeCasts_S32x128_S32x128) (broadcast S32x128 (Scalar.ofBits (F := Ideal) .f32 0x00000000#32)))
    (fun a l => if t (128 * a + l) = 0 then 0 else y (128 * a + l) (t (128 * a + l))) (fun a l => by
      show Scalar.select (IntOp.cmpi .ne (shapeCast S32x128 T' shapeCasts_S32x128_S32x128 (ix2 a l)) 0#32) (shapeCast S32x128 G shapeCasts_S32x128_S32x128 (ix2 a l)) (Ideal.ofBits .f32 0x00000000#32) = _
      rw [shapeCast_self, shapeCast_self, hT', hG, word_zero, ← EReal.coe_zero, select_counts (ht _)])
    shapeCasts_S32x128_S1x32x128 reduces_S1x32x128_S1
  show (wholeSum _ shapeCasts_S32x128_S1x32x128 reduces_S1x32x128_S1 * Named.named (F := Ideal) κ "crow" 0xBFAE63F8#32
      - Ideal.ofBits .f32 0x3651BA72#32 * wholeSum _ shapeCasts_S4096x128_S1x4096x128 reduces_S1x4096x128_S1
      - Named.named (F := Ideal) κ "gap" 0x3F666632#32 * wholeSum _ shapeCasts_S32x128_S1x32x128 reduces_S1x32x128_S1) * Ideal.ofBits .f32 0x39800000#32 = _
  rw [e1, e2, e3, named_crow, named_gap]
  rw [word_low, word_mean, ← EReal.coe_mul, ← EReal.coe_mul, ← EReal.coe_mul, ← EReal.coe_sub, ← EReal.coe_sub, ← EReal.coe_mul,
    blocks_rows (fun r => if t r = 0 then 0 else 1) 32, blocks_rows (fun r => if t r = 0 then 0 else y r (t r)) 32]
  congr 2
  rw [Finset.sum_mul, Finset.mul_sum, Finset.mul_sum, ← Finset.sum_sub_distrib, ← Finset.sum_sub_distrib]
  refine Finset.sum_congr rfl fun r _ => ?_
  unfold rowLossAt
  by_cases h : t r = 0
  · simp only [if_pos h, Finset.sum_const_zero, zero_mul, mul_zero, sub_zero]
  · simp only [if_neg h, laneSum_all]; ring

end Cert.Proof.Smooth

end
-- ==== Proof.KernelValue.lean ====
/-
  The kernel's result over the reals: what each array holds between the calls, to the mean of the rows' losses.
-/
module

public import proofs.«01_k».proof.Proof.KernelMean
public import proofs.«01_k».proof.Proof.Main

@[expose] public section

set_option maxRecDepth 16384

noncomputable section

namespace Cert.Proof.Smooth

open Cert.KernelIdeal Cert.KernelIdeal.Gen
open Idealize.ShloMosaic Idealize.ShloMosaic.ValueIdx
open Idealize.ShloMosaic.TcCoe
open Idealize.ShloMosaic.Pipeline (Dat Cfg Window)

variable (m : (ℓ : Loc nD τ sig) → Buf (Elt Ideal) ℓ) (d : Dev nD) (y : ℕ → ℕ → ℝ) (t : ℕ → ℕ)
variable (hX : ∀ (r : Fin 4096) (k : Fin 32000), (m ((SparseCore.T d).loc main_arg0) : S4096x32000.Idx → EReal) (ix2 r k) = ((y r.val k.val : ℝ) : EReal))
variable (hT : ∀ r : Fin 4096, (m (tLoc d) : S4096.Idx → BitVec 32) (ix1 r) = BitVec.ofNat 32 (t r.val))
variable (ht : ∀ n, t n < 32000)

/-- A vector of 4096 as a column, -/
theorem column_at {α : Type} (v : S4096.Idx → α) (r : Fin 4096) : shapeCast S4096x1 v shapeCasts_S4096_S4096x1 (ix2 r (0 : Fin 1)) = v (ix1 r) :=
  shapeCast_apply _ _ _ _ (by
    rw [Shape.rowMajor_val_one, Shape.rowMajor_val_two]; show r.val = r.val * 1 + 0; omega)

/-- and as thirty-two rows of 128. -/
theorem table_at {α : Type} (v : S4096.Idx → α) (a : Fin 32) (l : Fin 128) :
    shapeCast S32x128 v shapeCasts_S4096_S32x128 (ix2 a l) = v (ix1 (⟨128 * a.val + l.val, by omega⟩ : Fin 4096)) :=
  shapeCast_apply _ _ _ _ (by
    rw [Shape.rowMajor_val_one, Shape.rowMajor_val_two]; show 128 * a.val + l.val = a.val * 128 + l.val; omega)

include hT in
/-- The first call's column of targets. -/
theorem V1_column (r : Fin 4096) : (V1 m d (Proc.devRef .tc main_v0) : S4096x1.Idx → BitVec 32) (ix2 r (0 : Fin 1)) = BitVec.ofNat 32 (t r.val) := by
  unfold V1
  rw [StableHlo.reshape_result]
  exact (column_at _ r).trans (hT r)

include hX in
/-- The first call's matrix of logits. -/
theorem V1_logits (r : Fin 4096) (k : Fin 32000) : (V1 m d (Proc.devRef .tc main_arg0) : S4096x32000.Idx → EReal) (ix2 r k) = ((y r.val k.val : ℝ) : EReal) := by
  rw [V1_matrix]; exact hX r k

include hX hT ht in
/-- The flat table of chunks: the target's slab of each row. -/
theorem tab_at (j : S524288.Idx) : (tab m d : S524288.Idx → EReal) j = ((laneHit y t ((j 0).val / 128) ((j 0).val % 128) 250 : ℝ) : EReal) := by
  have hj : (j 0).val < 524288 := (j 0).isLt
  unfold tab V3
  rw [StableHlo.reshape_result]
  show shapeCast S524288 (V2 m d (Proc.devRef .tc main_v1_1) : S4096x128.Idx → EReal) shapeCasts_S4096x128_S524288 j = _
  rw [shapeCast_apply _ _ j (ix2 (⟨(j 0).val / 128, by omega⟩ : Fin 4096) (⟨(j 0).val % 128, by omega⟩ : Fin 128)) (by
    rw [Shape.rowMajor_val_one, Shape.rowMajor_val_two]; show (j 0).val / 128 * 128 + (j 0).val % 128 = (j 0).val; omega)]
  unfold V2
  exact congrFun ((Pipeline.afterRegion_arr (dat0 (V1 m) d) (V1 m d) winFacts0.arr_inj (3 : Fin cfg0.W)).trans
    (hits_array (V1 m) d y t (V1_logits m d y hX) (V1_column m d t hT) ht)) (ix2 _ _)

include hX hT ht in
/-- The gathered elements: each row's logit at its target. -/
theorem gathered_at (r : Fin 4096) : (gathered (m (tLoc d)) (tab m d) : S4096.Idx → EReal) (ix1 r) = ((y r.val (t r.val) : ℝ) : EReal) := by
  have h := ht r.val
  have e : BitVec.toNat (w := 32) (HAnd.hAnd (α := BitVec 32) (β := BitVec 32) (γ := BitVec 32) (m (tLoc d) (ix1 r)) 127#32) = t r.val % 128 := by
    rw [show (m (tLoc d) (ix1 r) : BitVec 32) = BitVec.ofNat 32 (t r.val) from hT r, BitVec.toNat_and, BitVec.toNat_ofNat, Nat.mod_eq_of_lt (by omega)]
    exact Nat.and_two_pow_sub_one_eq_mod (t r.val) 7
  have ef : flatWord (m (tLoc d)) (ix1 r) = r.val * 128 + t r.val % 128 := by
    show r.val * 128 + BitVec.toNat (w := 32) (HAnd.hAnd (α := BitVec 32) (β := BitVec 32) (γ := BitVec 32) (m (tLoc d) (ix1 r)) 127#32) = _
    rw [e]
  unfold gathered
  rw [tab_at m d y t hX hT ht]
  show ((laneHit y t (flatWord (m (tLoc d)) (ix1 r) / 128) (flatWord (m (tLoc d)) (ix1 r) % 128) 250 : ℝ) : EReal) = _
  rw [ef, show (r.val * 128 + t r.val % 128) / 128 = r.val by omega, show (r.val * 128 + t r.val % 128) % 128 = t r.val % 128 by omega,
    laneHit_all y t _ _ h, Nat.div_add_mod]

/-- The targets between the gather and the last call. -/
theorem V4_targets : V4 m d (Proc.devRef .tc main_arg1) = m (tLoc d) := by
  unfold V4
  rw [Function.update_of_ne (by decide), V3_targets]

include hX in
/-- The last call's arrays: the row sums, -/
theorem last_rows (r : Fin 4096) (l : Fin 128) : (V5 m d (Proc.devRef .tc main_v1_0) : S4096x128.Idx → EReal) (ix2 r l) = ((laneSum y r.val l.val 250 : ℝ) : EReal) := by
  unfold V5
  rw [StableHlo.reshape_result_ne _ _ _ _ _ _ _ (by decide), StableHlo.reshape_result_ne _ _ _ _ _ _ _ (by decide),
    StableHlo.reshape_result_ne _ _ _ _ _ _ _ (by decide)]
  unfold V4 V3 V2
  rw [Function.update_of_ne (by decide), StableHlo.reshape_result_ne _ _ _ _ _ _ _ (by decide)]
  exact congrFun ((Pipeline.afterRegion_arr (dat0 (V1 m) d) (V1 m d) winFacts0.arr_inj (2 : Fin cfg0.W)).trans
    (rows_array (V1 m) d y (V1_logits m d y hX))) (ix2 r l)

include hT in
/-- the targets as a column, -/
theorem last_column (r : Fin 4096) : (V5 m d (Proc.devRef .tc main_v4) : S4096x1.Idx → BitVec 32) (ix2 r (0 : Fin 1)) = BitVec.ofNat 32 (t r.val) := by
  unfold V5
  rw [StableHlo.reshape_result_ne _ _ _ _ _ _ _ (by decide), StableHlo.reshape_result_ne _ _ _ _ _ _ _ (by decide), StableHlo.reshape_result]
  refine (column_at _ r).trans ?_
  rw [V4_targets]; exact hT r

include hT in
/-- as rows of 128, -/
theorem last_table (a : Fin 32) (l : Fin 128) : (V5 m d (Proc.devRef .tc main_v5) : S32x128.Idx → BitVec 32) (ix2 a l) = BitVec.ofNat 32 (t (128 * a.val + l.val)) := by
  unfold V5
  rw [StableHlo.reshape_result_ne _ _ _ _ _ _ _ (by decide), StableHlo.reshape_result]
  refine (table_at _ a l).trans ?_
  rw [StableHlo.reshape_result_ne _ _ _ _ _ _ _ (by decide), V4_targets]; exact hT _

include hX hT ht in
/-- and the gathered elements so. -/
theorem last_gathered (a : Fin 32) (l : Fin 128) :
    (V5 m d (Proc.devRef .tc main_v6) : S32x128.Idx → EReal) (ix2 a l) = ((y (128 * a.val + l.val) (t (128 * a.val + l.val)) : ℝ) : EReal) := by
  unfold V5
  rw [StableHlo.reshape_result]
  refine (table_at _ a l).trans ?_
  rw [StableHlo.reshape_result_ne _ _ _ _ _ _ _ (by decide), StableHlo.reshape_result_ne _ _ _ _ _ _ _ (by decide)]
  unfold V4
  rw [Function.update_self]
  exact gathered_at m d y t hX hT ht _

/-- The last call's windows are at block 0, -/
theorem place_last : ∀ (w : Fin cfg2.W) (a : Fin (cfg2.win w).shape.rank), (cfg2.win w).index t2_0 a = 0 := by decide +kernel

/-- so that a position in one is the array's. -/
theorem whole_place (w : Fin cfg2.W) (x : ((cfg2.win w).xblock (cfg2.grid.coords t2_0)).Idx) (a : Fin (cfg2.win w).shape.rank) :
    ((((cfg2.win w).rect t2_0).emb x) a).val = (x a).val :=
  Pipeline.Window.rect_emb_val_of_index_zero _ _ _ (place_last w a) _

/-- The last call reads the row sums whole, -/
theorem whole_rows (r : Fin 4096) (l : Fin 128) : (wholeAt (V5 m) d 0 : S4096x128.Idx → EReal) (ix2 r l) = (V5 m d (Proc.devRef .tc main_v1_0) : S4096x128.Idx → EReal) (ix2 r l) :=
  congrArg (V5 m d (Proc.devRef .tc main_v1_0) : S4096x128.Idx → EReal) (funext fun a => Fin.ext (whole_place 0 (ix2 r l) a))
/-- the column of targets, -/
theorem whole_column (r : Fin 4096) : (wholeAt (V5 m) d 1 : S4096x1.Idx → BitVec 32) (ix2 r (0 : Fin 1)) = (V5 m d (Proc.devRef .tc main_v4) : S4096x1.Idx → BitVec 32) (ix2 r (0 : Fin 1)) :=
  congrArg (V5 m d (Proc.devRef .tc main_v4) : S4096x1.Idx → BitVec 32) (funext fun a => Fin.ext (whole_place 1 (ix2 r (0 : Fin 1)) a))
/-- their table -/
theorem whole_table (a : Fin 32) (l : Fin 128) : (wholeAt (V5 m) d 2 : S32x128.Idx → BitVec 32) (ix2 a l) = (V5 m d (Proc.devRef .tc main_v5) : S32x128.Idx → BitVec 32) (ix2 a l) :=
  congrArg (V5 m d (Proc.devRef .tc main_v5) : S32x128.Idx → BitVec 32) (funext fun b => Fin.ext (whole_place 2 (ix2 a l) b))
/-- and the gathered elements'. -/
theorem whole_gathered (a : Fin 32) (l : Fin 128) : (wholeAt (V5 m) d 3 : S32x128.Idx → EReal) (ix2 a l) = (V5 m d (Proc.devRef .tc main_v6) : S32x128.Idx → EReal) (ix2 a l) :=
  congrArg (V5 m d (Proc.devRef .tc main_v6) : S32x128.Idx → EReal) (funext fun b => Fin.ext (whole_place 3 (ix2 a l) b))

include hX hT ht in
/-- The last call's value: the mean of the rows' losses. -/
theorem last_value : k2_pay1 (F := Ideal) (wholeAt (V5 m) d 2) (wholeAt (V5 m) d 1) (wholeAt (V5 m) d 0) (wholeAt (V5 m) d 3)
    = (((∑ r ∈ Finset.range 4096, rowLossAt y t r) * (1 / 4096) : ℝ) : EReal) :=
  mean_value y t ht _ _ _ _ (fun a l => (whole_table m d a l).trans (last_table m d t hT a l)) (fun r => (whole_column m d r).trans (last_column m d t hT r))
    (fun r l => (whole_rows m d r l).trans (last_rows m d y hX r l)) (fun a l => (whole_gathered m d a l).trans (last_gathered m d y t hX hT ht a l))

include hX hT ht in
/-- The one word it leaves. -/
theorem last_array : (dat2 (V5 m) d).arrAt 4 cfg2.N = fun _ : S1x1.Idx => (((∑ r ∈ Finset.range 4096, rowLossAt y t r) * (1 / 4096) : ℝ) : EReal) := by
  refine (dat2 (V5 m) d).arrAt_eq_of_covers 4 _ (by decide +kernel) fun p hp x => ?_
  exact last_value m d y t hX hT ht

include hX hT ht in
/-- The kernel's result. -/
theorem kernel_value : V7 m d (Proc.devRef .tc main_v8) = fun _ : S_.Idx => (((∑ r ∈ Finset.range 4096, rowLossAt y t r) * (1 / 4096) : ℝ) : EReal) := by
  unfold V7
  rw [StableHlo.reshape_result]
  funext j
  show shapeCast S_ (V6 m d (Proc.devRef .tc main_v7) : S1x1.Idx → EReal) shapeCasts_S1x1_S_ j = _
  unfold shapeCast V6
  exact congrFun ((Pipeline.afterRegion_arr (dat2 (V5 m) d) (V5 m d) winFacts2.arr_inj (4 : Fin cfg2.W)).trans
    (last_array m d y t hX hT ht)) _

end Cert.Proof.Smooth

end
-- ==== Proof.RefValue.lean ====
/-
  The reference's result: the mean of the rows' losses.
-/
module

public import proofs.«01_k».proof.Proof.Loss
public import proofs.«01_k».proof.Proof.Gen.ReferenceIdeal.Read
public import Idealize.ShloMosaic.Lib.Routing.OpsOne
public import Idealize.ShloMosaic.Lib.ValueIdx

@[expose] public section

noncomputable section

namespace Cert.Proof.Smooth

open Cert.ReferenceIdeal Cert.ReferenceIdeal.Gen Cert.ReferenceIdeal.Read
open Idealize.ShloMosaic Idealize.ShloMosaic.ValueIdx Idealize.ShloMosaic.Routing

/-- A target's word, read signed, is the target. -/
theorem word_signed (n : ℕ) (h : n < 2147483648) : (BitVec.ofNat 32 n).toInt = (n : Int) := by
  rw [BitVec.toInt_eq_toNat_cond, BitVec.toNat_ofNat]
  norm_num
  omega

/-- A word below two to the thirty-first is not negative, so that the reference's wrapping leaves it. -/
theorem wrapped (n : ℕ) (h : n < 2147483648) (a : BitVec 32) : Scalar.select (IntOp.cmpi .slt (BitVec.ofNat 32 n) 0#32) a (BitVec.ofNat 32 n) = BitVec.ofNat 32 n :=
  wrap_of_lt _ _ (by rw [BitVec.toNat_ofNat]; norm_num; omega)

section

variable (T : IVec S4096 32) (g : Fin 4096 → Fin 32000) (hT : ∀ r, T (ix1 r) = BitVec.ofNat 32 (g r).val)

/-- The first scatter's index pairs: the row, -/
theorem pair_row (r : Fin 4096) : val_main_v14 (F := Ideal) T (ix2 r (0 : Fin 2)) = BitVec.ofNat 32 r.val := by
  unfold val_main_v14
  rw [concatenate_pair_apply_left (t := S4096x2) (s₁ := S4096x1) (s₂ := S4096x1) 1 _ _ _ (ix2 r (0 : Fin 2)) rfl (ix2 r (0 : Fin 1)) (fun b => match b with | ⟨0, _⟩ => rfl | ⟨1, _⟩ => rfl),
    val_main_v12_apply, val_main_v6_apply, val_main_v3_apply, val_main_v1_apply, val_main_v2_apply, val_main_c_apply]
  exact wrapped r.val (by omega) _

include hT in
/-- and its target. -/
theorem pair_target (r : Fin 4096) : val_main_v14 (F := Ideal) T (ix2 r (1 : Fin 2)) = BitVec.ofNat 32 (g r).val := by
  unfold val_main_v14
  rw [concatenate_pair_apply_right (t := S4096x2) (s₁ := S4096x1) (s₂ := S4096x1) 1 _ _ _ (ix2 r (1 : Fin 2)) rfl rfl (ix2 r (0 : Fin 1))
      (fun b hb => match b with | ⟨0, _⟩ => rfl | ⟨1, _⟩ => absurd rfl hb) rfl,
    val_main_v13_apply, val_main_v11_apply, val_main_v8_apply, val_main_v7_apply, val_main_c_1_apply]
  have e : T (idx_main_v13 (ix2 r (0 : Fin 1))) = BitVec.ofNat 32 (g r).val := by
    have i : idx_main_v13 (ix2 r (0 : Fin 1)) = ix1 r := funext fun a => match a with | ⟨0, _⟩ => rfl
    rw [i, hT]
  rw [e]
  exact wrapped (g r).val (by omega) _

include hT in
/-- Update `k` of the first scatter lands at row `k`, at its target. -/
theorem lands_pair (k r : Fin 4096) (c : Fin 32000) :
    scatter_S4096x32000_S4096x2_S4096_n_01_01_1.resultIdx? (ix1 k) (val_main_v14 (F := Ideal) T) = some (ix2 r c) ↔ k = r ∧ g k = c := by
  have w : ∀ a : Fin 2, scatter_S4096x32000_S4096x2_S4096_n_01_01_1.window (ix1 k) a = 0 := fun a => by
    match a with | 0 => rfl | 1 => rfl
  have s0 : scatter_S4096x32000_S4096x2_S4096_n_01_01_1.start (ix1 k) (val_main_v14 (F := Ideal) T) 0 = (k.val : Int) := by
    refine Eq.trans ?_ (word_signed k.val (by omega))
    rw [← pair_row T k]
    exact congrArg (fun i => (val_main_v14 (F := Ideal) T i).toInt) (funext fun a => match a with | ⟨0, _⟩ => rfl | ⟨1, _⟩ => rfl)
  have s1 : scatter_S4096x32000_S4096x2_S4096_n_01_01_1.start (ix1 k) (val_main_v14 (F := Ideal) T) 1 = ((g k).val : Int) := by
    refine Eq.trans ?_ (word_signed (g k).val (by omega))
    rw [← pair_target T g hT k]
    exact congrArg (fun i => (val_main_v14 (F := Ideal) T i).toInt) (funext fun a => match a with | ⟨0, _⟩ => rfl | ⟨1, _⟩ => rfl)
  rw [resultIdx?_ix2, s0, s1, w, w, Fin.ext_iff, Fin.ext_iff]
  omega

include hT in
/-- So the first scatter sets each row's target's weight. -/
theorem first_scatter (r : Fin 4096) (c : Fin 32000) :
    val_main_v16 (F := Ideal) T (ix2 r c) = (((if c = g r then highW else lowW) : ℝ) : EReal) := by
  unfold val_main_v16
  by_cases h : c = g r
  · rw [if_pos h]
    refine (scatter_set_hit _ _ _ _ _ _ (fun j _ => ?_) (ix1 r) ((lands_pair T g hT r r c).mpr ⟨rfl, h.symm⟩)).trans word_high
    rw [val_main_v15_apply, val_main_cst_3_apply]; rfl
  · rw [if_neg h]
    refine (scatter_set_miss _ _ _ _ _ fun j hj => ?_).trans ?_
    · rw [eq_ix1 j] at hj
      obtain ⟨e, q⟩ := (lands_pair T g hT (j 0) r c).mp hj
      exact h (by rw [← q]; exact congrArg g e)
    · rw [val_main_v0_apply, val_main_cst_apply]; exact word_low

/-- The second scatter's updates land on column 0. -/
theorem lands_zero (k r : Fin 4096) (c : Fin 32000) :
    scatter_S4096x32000_S1_S4096_0_1_1_0.resultIdx? (ix1 k) (val_main_v17 (F := Ideal)) = some (ix2 r c) ↔ k = r ∧ c = 0 :=
  lands_col scatter_S4096x32000_S1_S4096_0_1_1_0 rfl rfl _ 0 (by rw [val_main_v17_apply, val_main_c_4_apply]; rfl) k r c

include hT in
/-- The weights after it. -/
theorem second_scatter (r : Fin 4096) (c : Fin 32000) :
    val_main_v19 (F := Ideal) T (ix2 r c) = (((if c = 0 then 0 else if c = g r then highW else lowW) : ℝ) : EReal) := by
  unfold val_main_v19
  by_cases h : c = 0
  · rw [if_pos h]
    refine (scatter_set_hit _ _ _ _ _ _ (fun j _ => ?_) (ix1 r) ((lands_zero r r c).mpr ⟨rfl, h⟩)).trans word_zero
    rw [val_main_v18_apply, val_main_cst_5_apply]; rfl
  · rw [if_neg h]
    refine (scatter_set_miss _ _ _ _ _ fun j hj => ?_).trans (first_scatter T g hT r c)
    rw [eq_ix1 j] at hj
    exact h ((lands_zero (j 0) r c).mp hj).2

include hT in
/-- Whether a row's target is the ignored class. -/
theorem is_ignored (r : Fin 4096) (c : Fin 32000) : val_main_call0_v1 (F := Ideal) T (ix2 r c) = BitVec.ofBool (decide (g r = 0)) := by
  rw [val_main_call0_v1_apply, val_main_v22_apply, val_main_v21_apply, val_main_v20_apply, val_main_c_6_apply]
  have e : T (idx_main_v22 (idx_main_call0_v1 (ix2 r c))) = BitVec.ofNat 32 (g r).val := by
    have i : idx_main_v22 (idx_main_call0_v1 (ix2 r c)) = ix1 r := funext fun a => match a with | ⟨0, _⟩ => rfl
    rw [i, hT]
  rw [e]
  refine congrArg BitVec.ofBool ?_
  rw [Bool.eq_iff_iff, decide_eq_true_eq, beq_iff_eq, Fin.ext_iff]
  constructor
  · intro h
    have := congrArg BitVec.toNat h
    rw [BitVec.toNat_ofNat] at this
    have q := (g r).isLt
    show (g r).val = 0
    norm_num at this
    omega
  · intro h
    rw [show (g r).val = 0 from h]

include hT in
/-- The reference's weights. -/
theorem ref_weight (r : Fin 4096) (c : Fin 32000) : val_main_v23 (F := Ideal) T (ix2 r c) = ((weight (g r) c : ℝ) : EReal) := by
  rw [val_main_v23_apply, is_ignored T g hT, second_scatter T g hT, val_main_call0_v2_apply, val_main_call0_v0_apply, val_main_cst_7_apply]
  unfold weight
  by_cases h : g r = 0
  · rw [if_pos (Or.inl h), decide_eq_true h]; exact word_zero
  · rw [decide_eq_false h]
    by_cases h0 : c = 0
    · rw [if_pos (Or.inr h0), if_pos h0]; rfl
    · rw [if_neg (not_or.mpr ⟨h, h0⟩), if_neg h0]; rfl

/-- No weight is negative. -/
theorem weight_nonneg (a c : Fin 32000) : 0 ≤ weight a c := by
  unfold weight; split_ifs
  exacts [le_rfl, highW_pos.le, lowW_pos.le]

include hT in
/-- A weight times its logarithm, zero at zero. -/
theorem ref_log (r : Fin 4096) (c : Fin 32000) :
    val_main_v31 (F := Ideal) T (ix2 r c) = ((weight (g r) c * Real.log (weight (g r) c) : ℝ) : EReal) := by
  have hn := weight_nonneg (g r) c
  rw [val_main_v31_apply, val_main_v27_apply, val_main_v25_apply, val_main_v26_apply, val_main_v29_apply, val_main_v28_apply, val_main_v24_apply,
    val_main_cst_8_apply, val_main_v30_apply, val_main_cst_9_apply, ref_weight T g hT r c]
  generalize weight (g r) c = w at hn
  rw [Ideal.hostUnary_log_def, Ideal.mulf_def, Ideal.ofBits_def, word_zero]
  by_cases h : w = 0
  · subst h
    have : IntOp.ori (FloatOps.cmpf (F := Ideal) (φ := .f32) .une ((0 : ℝ) : EReal) (0 : EReal)) (FloatOps.cmpf (F := Ideal) (φ := .f32) .une ((0 : ℝ) : EReal) ((0 : ℝ) : EReal)) = 0#1 := by
      show IntOp.ori (BitVec.ofBool (decide (((0 : ℝ) : EReal) ≠ (0 : EReal)))) (BitVec.ofBool (decide (((0 : ℝ) : EReal) ≠ ((0 : ℝ) : EReal)))) = 0#1
      simp; rfl
    rw [this, zero_mul]; rfl
  · have : FloatOps.cmpf (F := Ideal) (φ := .f32) .une ((w : ℝ) : EReal) (0 : EReal) = 1#1 := by
      show BitVec.ofBool (decide ((w : EReal) ≠ (0 : EReal))) = 1#1
      rw [decide_eq_true (by exact_mod_cast h)]; rfl
    have l : Ideal.log (w : EReal) = ((Real.log w : ℝ) : EReal) := if_neg (not_le.mpr (lt_of_le_of_ne hn (Ne.symm h)))
    rw [this, l, ← EReal.coe_mul]
    have o : ∀ b : BitVec 1, IntOp.ori 1#1 b = 1#1 := by decide
    rw [o]; rfl

variable (X : FVec Ideal S4096x32000 .f32) (x : Fin 4096 → Fin 32000 → ℝ) (hX : ∀ r c, X (ix2 r c) = ((x r c : ℝ) : EReal))

include hT hX in
/-- The reference's result is the loss. -/
theorem reference_loss : val_main_v35 (F := Ideal) X T = fun _ => ((loss x g : ℝ) : EReal) := by
  funext i
  rw [val_main_v35_apply, val_main_cst_11_apply, val_main_v34_apply, Ideal.hostDivf_def, Ideal.ofBits_def, word_rows, Ideal.div_coe (by norm_num)]
  have s : ∑ j : S4096x32000.Idx, val_main_v33 (F := Ideal) X T j = ((∑ r, rowLoss (x r) (g r) : ℝ) : EReal) := by
    refine (sum_idx2 (n0 := 4096) (n1 := 32000) _).trans ?_
    rw [coe_total]
    refine Finset.sum_congr rfl fun r _ => ?_
    rw [← row_sum, coe_total]
    refine Finset.sum_congr rfl fun c _ => ?_
    rw [val_main_v33_apply, val_main_v32_apply, ref_log T g hT, ref_weight T g hT, hX, Ideal.mulf_def, Ideal.subf_def]
    push_cast; rfl
  rw [s, val_main_cst_10_apply, Ideal.ofBits_def, word_zero, zero_add, ← EReal.coe_mul]
  rfl

end

end Cert.Proof.Smooth

end
-- ==== Proof.Agree.lean ====
/-
  The kernel's result is the reference's. The precondition makes the targets classes and the logits reals; both
  programs then end with the mean of the rows' losses.
-/
module

public import proofs.«01_k».proof.Proof.Frames
public import proofs.«01_k».proof.Proof.KernelValue
public import proofs.«01_k».proof.Proof.RefValue
public import Idealize.ShloMosaic.Lib.ReduceAll
public import Idealize.ShloMosaic.Lib.WordArith

@[expose] public section

set_option maxRecDepth 16384

noncomputable section

namespace Cert.Proof.Smooth

open Idealize.ShloMosaic Idealize.ShloMosaic.ValueIdx Idealize.SL.Sem

/-- A word not below zero and below 32000, read signed, is a class. -/
theorem class_of_bits (v : BitVec 32) (h0 : IntOp.cmpi .sge v 0#32 = 1#1) (h1 : IntOp.cmpi .slt v 32000#32 = 1#1) : v.toNat < 32000 := by
  have hv := v.isLt
  rw [IntOp.cmpi_sge, show (0#32 : BitVec 32).toInt = 0 from by decide] at h0
  rw [IntOp.cmpi_slt, show (32000#32 : BitVec 32).toInt = 32000 from by decide] at h1
  have e := BitVec.toInt_eq_toNat_cond v
  split at e <;> omega

/-- An extended real of magnitude below infinity is real. -/
theorem real_of_bit (v : EReal) (h : Ideal.cmp .olt (max v (-v)) ⊤ = 1#1) : ((v.toReal : ℝ) : EReal) = v := by
  have h' : max v (-v) < ⊤ := by
    by_contra hn
    have : Ideal.cmp .olt (max v (-v)) ⊤ = 0#1 := by
      show BitVec.ofBool (decide (max v (-v) < ⊤)) = 0#1
      rw [decide_eq_false hn]; rfl
    rw [this] at h; exact absurd h (by decide)
  refine EReal.coe_toReal (fun e => ?_) (fun e => ?_)
  · rw [e] at h'; exact absurd (lt_of_le_of_lt (le_max_left _ _) h') (lt_irrefl _)
  · rw [e] at h'; exact absurd (lt_of_le_of_lt (le_max_right _ _) h') (by simp)

/-- What the precondition says of the two arguments. -/
theorem pre_means (X : FVec Ideal Cert.Pre_pre.S4096x32000 .f32) (T : IVec Cert.Pre_pre.S4096 32) (h : Cert.Pre_pre.fn (F := Ideal) X T = fun _ => 1#1) :
    ∃ (x : Fin 4096 → Fin 32000 → ℝ) (g : Fin 4096 → Fin 32000),
      (∀ r c, X (ix2 r c) = ((x r c : ℝ) : EReal)) ∧ ∀ r, T (ix1 r) = BitVec.ofNat 32 (g r).val := by
  have : Subsingleton Cert.Pre_pre.S_.Idx := ⟨fun a b => funext fun i => i.elim0⟩
  have e := congrFun h (fun a => a.elim0)
  obtain ⟨e', hf⟩ := IntOp.andi_eq_one.1 e
  obtain ⟨hl, hu⟩ := IntOp.andi_eq_one.1 e'
  have hb : ∀ r : Fin 4096, (T (ix1 r)).toNat < 32000 := fun r =>
    class_of_bits _ (Host.reduce_andi_all _ _ _ _ _ hl (ix1 r)) (Host.reduce_andi_all _ _ _ _ _ hu (ix1 r))
  refine ⟨fun r c => (X (ix2 r c)).toReal, fun r => ⟨(T (ix1 r)).toNat, hb r⟩, fun r c => ?_, fun r => ?_⟩
  · have hx := Host.reduce_andi_all _ _ _ _ _ hf (ix2 r c)
    refine (real_of_bit _ ?_).symm
    rw [← word_inf]
    exact hx
  · exact BitVec.eq_of_toNat_eq (by rw [BitVec.toNat_ofNat, Nat.mod_eq_of_lt (T (ix1 r)).isLt])

section

variable (x : Fin 4096 → Fin 32000 → ℝ) (g : Fin 4096 → Fin 32000)

/-- The logits by position, zero outside the matrix, -/
def byPlace (R k : ℕ) : ℝ := if h : R < 4096 ∧ k < 32000 then x ⟨R, h.1⟩ ⟨k, h.2⟩ else 0
/-- and the targets. -/
def classAt (R : ℕ) : ℕ := if h : R < 4096 then (g ⟨R, h⟩).val else 0

/-- Inside the matrix it is the logit, -/
theorem byPlace_val (r : Fin 4096) (k : Fin 32000) : byPlace x r.val k.val = x r k := dif_pos ⟨r.isLt, k.isLt⟩
/-- and it is the row's target, -/
theorem classAt_val (r : Fin 4096) : classAt g r.val = (g r).val := dif_pos r.isLt
/-- everywhere a class. -/
theorem classAt_lt (n : ℕ) : classAt g n < 32000 := by
  unfold classAt; split
  · exact (g _).isLt
  · norm_num

/-- By position, a row's loss is its loss. -/
theorem rowLossAt_val (r : Fin 4096) : rowLossAt (byPlace x) (classAt g) r.val = rowLoss (x r) (g r) := by
  have h0 : byPlace x r.val 0 = x r 0 := byPlace_val x r 0
  unfold rowLossAt rowLoss
  rw [classAt_val, byPlace_val, h0, Finset.sum_range, Finset.sum_congr rfl fun k _ => byPlace_val x r k]
  exact if_congr (by rw [Fin.ext_iff]; rfl) rfl rfl

/-- So is the mean. -/
theorem mean_val : (∑ r ∈ Finset.range 4096, rowLossAt (byPlace x) (classAt g) r) * (1 / 4096) = loss x g := by
  unfold loss
  rw [Finset.sum_range, Finset.sum_congr rfl fun r _ => rowLossAt_val x g r]

end

/-- The kernel over the extended reals computes the reference's result. -/
theorem agree : Cert.algebraic_KernelIdeal_ReferenceIdeal_pre_pre := by
  intro m ρ m' ρ' hpre hargs
  choose x g hX hT using fun c => pre_means _ _ (hpre c)
  refine ⟨fun c _ => ((loss (x c) (g c) : ℝ) : EReal), ?_, ?_⟩
  · refine (θ_run Cert.KernelIdeal.defs _ _).mono (fun r h c => ⟨(h.1 c).1.trans ?_, (h.1 c).2⟩) (run_all (F := Ideal) m ρ)
    rw [kernel_value m c (byPlace (x c)) (classAt (g c)) (fun r k => (hX c r k).trans (by rw [byPlace_val]))
      (fun r => (hT c r).trans (by rw [classAt_val])) (classAt_lt (g c)), mean_val]
    rfl
  · refine (θ_run Cert.ReferenceIdeal.defs _ _).mono (fun r h c => ⟨(h c).1.trans ?_, (h c).2⟩) (Cert.ReferenceIdeal.Value.run (F := Ideal) m' ρ')
    rw [Cert.ReferenceIdeal.Read.val_main_v35_eq, (hargs c).1, (hargs c).2]
    exact reference_loss _ (g c) (hT c) _ (x c) (hX c)

end Cert.Proof.Smooth

end
-- ==== Proof.lean ====
/-
  The certificate of the smoothed cross-entropy: the frames and the two named constants (Proof/Frames.lean), and that the
  kernel's result is the reference's (Proof/Agree.lean).
-/
module

public import proofs.«01_k».proof.Defs
public import proofs.«01_k».proof.Proof.Frames
public import proofs.«01_k».proof.Proof.Agree
public import proofs.«01_k».proof.Proof.Gen.ReferenceIdeal
public import proofs.«01_k».proof.Proof.Gen.ReferenceIdeal.Read

@[expose] public section

noncomputable section

namespace Cert.Proof

open Cert.Proof.Smooth

/-- The certificate. -/
theorem claim : Cert.Claim := ⟨Cert.Kernel.Gen.facts, Cert.KernelIdeal.Gen.facts, Cert.ReferenceIdeal.Gen.facts, Cert.Pre_pre.Gen.facts,
  frame_kernel, frame_ideal, frame_ideal_pre, frame_reference, frame_reference_pre, named, agree⟩

end Cert.Proof

end
